-- ==== Defs.lean ====
def Pre_Kernel [hPre_ranges : Cert.Pre_ranges.Facts] (m : (ℓ : Loc Cert.Kernel.nD Cert.Kernel.τ Cert.Kernel.sig) → Buf (Elt Bits) ℓ) : Prop :=
  ∀ c : Dev Cert.Kernel.nD,
    (Cert.Pre_ranges.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_ranges : Cert.Pre_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_ranges : Cert.Pre_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_ranges : Cert.Pre_ranges.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_ranges : Cert.Pre_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3E0293EE#32 (((Real.log 2)⁻¹ * (Real.sqrt 128)⁻¹ : ℝ) : EReal)
  ∧ IdealRules.named_const.Statement Cert.KernelIdeal.κ "mask" .f32 0xFF333332#32 ⊥

def algebraic_KernelIdeal_ReferenceIdeal [hKernelIdeal : Cert.KernelIdeal.Facts] [hReferenceIdeal : Cert.ReferenceIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ranges : Cert.Pre_ranges.Facts),
    quiescent_Kernel (hKernel := hKernel) (hPre_ranges := hPre_ranges)
    ∧ quiescent_KernelIdeal (hKernelIdeal := hKernelIdeal) (hPre_ranges := hPre_ranges)
    ∧ quiescent_ReferenceIdeal (hReferenceIdeal := hReferenceIdeal) (hPre_ranges := hPre_ranges)
    ∧ preserves_Kernel_KernelIdeal
    ∧ algebraic_KernelIdeal_ReferenceIdeal (hKernelIdeal := hKernelIdeal) (hReferenceIdeal := hReferenceIdeal) (hPre_ranges := hPre_ranges)
-- ==== Pre_ranges.lean ====
abbrev S32x32x128 : Shape := ⟨3, ![32, 32, 128]⟩
abbrev S32x8192x128 : Shape := ⟨3, ![32, 8192, 128]⟩
abbrev S32 : Shape := ⟨1, ![32]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S32x32x128 .f32) (main_arg1 : FVec F S32x8192x128 .f32) (main_arg2 : FVec F S32x8192x128 .f32) (main_arg3 : IVec S32 32) (main_arg4 : IVec S32 32) : IVec S_ 1 :=
  let main_c : IVec S_ 32 := constantI S_ 32 0#32
  let main_v0 : IVec S32 32 := broadcastInDim S32 ![] bcast_S_S32 main_c
  let main_v1 : IVec S32 1 := cmpi .eq main_arg3 main_v0
  let main_c_0 : IVec S_ 32 := constantI S_ 32 0#32
  let main_v2 : IVec S32 32 := broadcastInDim S32 ![] bcast_S_S32 main_c_0
  let main_v3 : IVec S32 1 := cmpi .sge main_arg4 main_v2
  let main_c_1 : IVec S_ 32 := constantI S_ 32 8192#32
  let main_v4 : IVec S32 32 := broadcastInDim S32 ![] bcast_S_S32 main_c_1
  let main_v5 : IVec S32 1 := cmpi .sle main_arg4 main_v4
  let main_v6 : IVec S32 1 := andi main_v3 main_v5
  let main_v7 : IVec S32 1 := andi main_v1 main_v6
  let main_c_2 : IVec S_ 1 := constantI S_ 1 1#1
  let main_v8 : IVec S_ 1 := (fun x v => Host.reduce IntOp.andi x v reducesTo_S32_S_d0 h_S_) main_v7 main_c_2
  main_v8
-- ==== Kernel.lean ====
abbrev S32x32x128 : Shape := ⟨3, ![32, 32, 128]⟩
abbrev S32x8192x128 : Shape := ⟨3, ![32, 8192, 128]⟩
abbrev S32 : Shape := ⟨1, ![32]⟩
abbrev S_ : Shape := ⟨0, ![]⟩
abbrev S1x32x128 : Shape := ⟨3, ![1, 32, 128]⟩
abbrev S1x4096x128 : Shape := ⟨3, ![1, 4096, 128]⟩
abbrev S1 : Shape := ⟨1, ![1]⟩
abbrev S32x128 : Shape := ⟨2, ![32, 128]⟩
abbrev S4096x128 : Shape := ⟨2, ![4096, 128]⟩
abbrev S32x4096 : Shape := ⟨2, ![32, 4096]⟩
abbrev S32x1 : Shape := ⟨2, ![32, 1]⟩

abbrev nBuf : Space → Nat
  | .hbm => 11
  | .vmem => 11
  | .smem => 2
  | _ => 0

abbrev bufTy : (tb : Table) → Fin (tcTables nBuf tb) → BufTy
  | .hbm, ⟨0, _⟩ => ⟨S32x32x128, .f32⟩
  | .hbm, ⟨1, _⟩ => ⟨S32x8192x128, .f32⟩
  | .hbm, ⟨2, _⟩ => ⟨S32x8192x128, .f32⟩
  | .hbm, ⟨3, _⟩ => ⟨S32, .i32⟩
  | .hbm, ⟨4, _⟩ => ⟨S_, .i32⟩
  | .hbm, ⟨5, _⟩ => ⟨S32, .i32⟩
  | .hbm, ⟨6, _⟩ => ⟨S32, .i1⟩
  | .hbm, ⟨7, _⟩ => ⟨S_, .i32⟩
  | .hbm, ⟨8, _⟩ => ⟨S_, .i32⟩
  | .hbm, ⟨9, _⟩ => ⟨S32, .i32⟩
  | .hbm, ⟨10, _⟩ => ⟨S32x32x128, .f32⟩
  | .local _ .vmem, ⟨0, _⟩ => ⟨S1x32x128, .f32⟩
  | .local _ .vmem, ⟨1, _⟩ => ⟨S1x32x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x32x128, .f32⟩
  | .local _ .vmem, ⟨7, _⟩ => ⟨S1x32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .smem, ⟨0, _⟩ => ⟨S32, .i32⟩
  | .local _ .smem, ⟨1, _⟩ => ⟨S32, .i32⟩
  | _, _ => ⟨S32x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v2 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

abbrev pre0 : Pipeline.Prefetch sig := ⟨2, ![main_v2.idx, main_arg4.idx], fun | 0 => main_v2.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v3 : BitVec 32) : BitVec 1 :=
  let arg1 : BitVec 32 := BitVec.ofNat 32 (i 1).val
  let c4096_i32 : BitVec 32 := 4096#32
  let v4 : BitVec 32 := Scalar.addi v3 c4096_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4096_i32_0 : BitVec 32 := 4096#32
  let c0_i32_2 : BitVec 32 := 0#32
  let v12 : BitVec 1 := Scalar.cmpi .sgt c4096_i32_0 c0_i32_2
  let v13 : BitVec 32 := Scalar.extui v12
  let c0_i32_3 : BitVec 32 := 0#32
  let v14 : BitVec 1 := Scalar.cmpi .slt c4096_i32_0 c0_i32_3
  let v15 : BitVec 32 := Scalar.extui v14
  let v16 : BitVec 32 := Scalar.subi v13 v15
  let v17 : BitVec 1 := Scalar.cmpi .ne v11 v16
  let v18 : BitVec 32 := Scalar.remsi v5 c4096_i32_0
  let c0_i32_4 : BitVec 32 := 0#32
  let v19 : BitVec 1 := Scalar.cmpi .ne v18 c0_i32_4
  let v20 : BitVec 1 := Scalar.andi v17 v19
  let v6 : BitVec 32 := Scalar.divsi v5 c4096_i32_0
  let c1_i32_5 : BitVec 32 := 1#32
  let v21 : BitVec 32 := Scalar.subi v6 c1_i32_5
  let v22 : BitVec 32 := Scalar.select v20 v21 v6
  let v26 : BitVec 1 := Scalar.cmpi .slt arg1 v22
  let v27 : BitVec 32 := Scalar.extui v26
  let c0_i32_8 : BitVec 32 := 0#32
  let v28 : BitVec 1 := Scalar.cmpi .ne v27 c0_i32_8
  v28

def k0_cond3 (i : grid0.Coords) (v1 : BitVec 32) : BitVec 1 :=
  let arg1 : BitVec 32 := BitVec.ofNat 32 (i 1).val
  let c1_i32_15 : BitVec 32 := 1#32
  let v36 : BitVec 32 := Scalar.addi arg1 c1_i32_15
  let c4096_i32_16 : BitVec 32 := 4096#32
  let v37 : BitVec 32 := Scalar.muli v36 c4096_i32_16
  let v38 : BitVec 1 := Scalar.cmpi .sgt v37 v1
  let v_true : BitVec 1 := 1#1
  let v39 : BitVec 1 := Scalar.xori v38 v_true
  let v40 : BitVec 32 := Scalar.extui v39
  let c0_i32_17 : BitVec 32 := 0#32
  let v41 : BitVec 1 := Scalar.cmpi .ne v40 c0_i32_17
  v41

def k0_cond4 (i : grid0.Coords) (v3 : BitVec 32) : BitVec 1 :=
  let arg1 : BitVec 32 := BitVec.ofNat 32 (i 1).val
  let c4096_i32 : BitVec 32 := 4096#32
  let v4 : BitVec 32 := Scalar.addi v3 c4096_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4096_i32_0 : BitVec 32 := 4096#32
  let c0_i32_2 : BitVec 32 := 0#32
  let v12 : BitVec 1 := Scalar.cmpi .sgt c4096_i32_0 c0_i32_2
  let v13 : BitVec 32 := Scalar.extui v12
  let c0_i32_3 : BitVec 32 := 0#32
  let v14 : BitVec 1 := Scalar.cmpi .slt c4096_i32_0 c0_i32_3
  let v15 : BitVec 32 := Scalar.extui v14
  let v16 : BitVec 32 := Scalar.subi v13 v15
  let v17 : BitVec 1 := Scalar.cmpi .ne v11 v16
  let v18 : BitVec 32 := Scalar.remsi v5 c4096_i32_0
  let c0_i32_4 : BitVec 32 := 0#32
  let v19 : BitVec 1 := Scalar.cmpi .ne v18 c0_i32_4
  let v20 : BitVec 1 := Scalar.andi v17 v19
  let v6 : BitVec 32 := Scalar.divsi v5 c4096_i32_0
  let c1_i32_5 : BitVec 32 := 1#32
  let v21 : BitVec 32 := Scalar.subi v6 c1_i32_5
  let v22 : BitVec 32 := Scalar.select v20 v21 v6
  let c1_i32_37 : BitVec 32 := 1#32
  let v233 : BitVec 32 := Scalar.subi v22 c1_i32_37
  let v234 : BitVec 1 := Scalar.cmpi .eq arg1 v233
  let v235 : BitVec 32 := Scalar.extui v234
  let c0_i32_38 : BitVec 32 := 0#32
  let v236 : BitVec 1 := Scalar.cmpi .ne v235 c0_i32_38
  v236

def k0_cond5 (i : grid0.Coords) (v1 : BitVec 32) : BitVec 1 :=
  let arg1 : BitVec 32 := BitVec.ofNat 32 (i 1).val
  let c1_i32_15 : BitVec 32 := 1#32
  let v36 : BitVec 32 := Scalar.addi arg1 c1_i32_15
  let c4096_i32_16 : BitVec 32 := 4096#32
  let v37 : BitVec 32 := Scalar.muli v36 c4096_i32_16
  let v38 : BitVec 1 := Scalar.cmpi .sgt v37 v1
  let v42 : BitVec 32 := Scalar.extui v38
  let c0_i32_18 : BitVec 32 := 0#32
  let v43 : BitVec 1 := Scalar.cmpi .ne v42 c0_i32_18
  v43

def k0_cond6 (i : grid0.Coords) (v3 : BitVec 32) : BitVec 1 :=
  let arg1 : BitVec 32 := BitVec.ofNat 32 (i 1).val
  let c4096_i32 : BitVec 32 := 4096#32
  let v4 : BitVec 32 := Scalar.addi v3 c4096_i32
  let c1_i32 : BitVec 32 := 1#32
  let v5 : BitVec 32 := Scalar.subi v4 c1_i32
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c4096_i32_0 : BitVec 32 := 4096#32
  let c0_i32_2 : BitVec 32 := 0#32
  let v12 : BitVec 1 := Scalar.cmpi .sgt c4096_i32_0 c0_i32_2
  let v13 : BitVec 32 := Scalar.extui v12
  let c0_i32_3 : BitVec 32 := 0#32
  let v14 : BitVec 1 := Scalar.cmpi .slt c4096_i32_0 c0_i32_3
  let v15 : BitVec 32 := Scalar.extui v14
  let v16 : BitVec 32 := Scalar.subi v13 v15
  let v17 : BitVec 1 := Scalar.cmpi .ne v11 v16
  let v18 : BitVec 32 := Scalar.remsi v5 c4096_i32_0
  let c0_i32_4 : BitVec 32 := 0#32
  let v19 : BitVec 1 := Scalar.cmpi .ne v18 c0_i32_4
  let v20 : BitVec 1 := Scalar.andi v17 v19
  let v6 : BitVec 32 := Scalar.divsi v5 c4096_i32_0
  let c1_i32_5 : BitVec 32 := 1#32
  let v21 : BitVec 32 := Scalar.subi v6 c1_i32_5
  let v22 : BitVec 32 := Scalar.select v20 v21 v6
  let c1_i32_39 : BitVec 32 := 1#32
  let v241 : BitVec 32 := Scalar.subi v22 c1_i32_39
  let v242 : BitVec 1 := Scalar.cmpi .eq arg1 v241
  let v243 : BitVec 32 := Scalar.extui v242
  let c0_i32_40 : BitVec 32 := 0#32
  let v244 : BitVec 1 := Scalar.cmpi .ne v243 c0_i32_40
  v244

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c4096_i32 : BitVec 32 := 4096#32
  let v2 : BitVec 32 := Scalar.addi v1 c4096_i32
  let c1_i32 : BitVec 32 := 1#32
  let v3 : BitVec 32 := Scalar.subi v2 c1_i32
  let c4096_i32_0 : BitVec 32 := 4096#32
  let v4 : BitVec 32 := Scalar.divsi v3 c4096_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4096_i32_0 c0_i32_2
  let v11 : BitVec 32 := Scalar.extui v10
  let c0_i32_3 : BitVec 32 := 0#32
  let v12 : BitVec 1 := Scalar.cmpi .slt c4096_i32_0 c0_i32_3
  let v13 : BitVec 32 := Scalar.extui v12
  let v14 : BitVec 32 := Scalar.subi v11 v13
  let v15 : BitVec 1 := Scalar.cmpi .ne v9 v14
  let v16 : BitVec 32 := Scalar.remsi v3 c4096_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let v22 : BitVec 32 := Scalar.minsi arg1 v21
  let c0_i32_7 : BitVec 32 := 0#32
  let c0_i32_8 : BitVec 32 := 0#32
  ![arg0.toNat, v22.toNat, c0_i32_7.toNat]

def cc0_transform_2 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c4096_i32 : BitVec 32 := 4096#32
  let v2 : BitVec 32 := Scalar.addi v1 c4096_i32
  let c1_i32 : BitVec 32 := 1#32
  let v3 : BitVec 32 := Scalar.subi v2 c1_i32
  let c4096_i32_0 : BitVec 32 := 4096#32
  let v4 : BitVec 32 := Scalar.divsi v3 c4096_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4096_i32_0 c0_i32_2
  let v11 : BitVec 32 := Scalar.extui v10
  let c0_i32_3 : BitVec 32 := 0#32
  let v12 : BitVec 1 := Scalar.cmpi .slt c4096_i32_0 c0_i32_3
  let v13 : BitVec 32 := Scalar.extui v12
  let v14 : BitVec 32 := Scalar.subi v11 v13
  let v15 : BitVec 1 := Scalar.cmpi .ne v9 v14
  let v16 : BitVec 32 := Scalar.remsi v3 c4096_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let v22 : BitVec 32 := Scalar.minsi arg1 v21
  let c0_i32_7 : BitVec 32 := 0#32
  let c0_i32_8 : BitVec 32 := 0#32
  ![arg0.toNat, v22.toNat, c0_i32_7.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== KernelIdeal.lean ====
variable {F : FTy → Type} [FloatOps F] [Named F]
def κ : String → Option EReal := fun
  | "mask" => some ⊥
  | "scale" => some (((Real.log 2)⁻¹ * (Real.sqrt 128)⁻¹ : ℝ) : EReal)
  | _ => none
-- ==== ReferenceIdeal.lean ====
abbrev S32x32x128 : Shape := ⟨3, ![32, 32, 128]⟩
abbrev S32x8192x128 : Shape := ⟨3, ![32, 8192, 128]⟩
abbrev S32 : Shape := ⟨1, ![32]⟩
abbrev S32x32x8192 : Shape := ⟨3, ![32, 32, 8192]⟩
abbrev S_ : Shape := ⟨0, ![]⟩
abbrev S8192 : Shape := ⟨1, ![8192]⟩
abbrev S1x8192 : Shape := ⟨2, ![1, 8192]⟩
abbrev S32x1 : Shape := ⟨2, ![32, 1]⟩
abbrev S32x8192 : Shape := ⟨2, ![32, 8192]⟩
abbrev S32x1x8192 : Shape := ⟨3, ![32, 1, 8192]⟩
abbrev S32x32 : Shape := ⟨2, ![32, 32]⟩
abbrev S32x32x1 : Shape := ⟨3, ![32, 32, 1]⟩

abbrev nBuf : Space → Nat
  | .hbm => 59
  | .vmem => 0
  | .smem => 0
  | _ => 0

abbrev bufTy : (tb : Table) → Fin (tcTables nBuf tb) → BufTy
  | .hbm, ⟨0, _⟩ => ⟨S32x32x128, .f32⟩
  | .hbm, ⟨1, _⟩ => ⟨S32x8192x128, .f32⟩
  | .hbm, ⟨2, _⟩ => ⟨S32x8192x128, .f32⟩
  | .hbm, ⟨3, _⟩ => ⟨S32, .i32⟩
  | .hbm, ⟨4, _⟩ => ⟨S32, .i32⟩
  | .hbm, ⟨5, _⟩ => ⟨S32x32x8192, .f32⟩
  | .hbm, ⟨6, _⟩ => ⟨S_, .f32⟩
  | .hbm, ⟨7, _⟩ => ⟨S_, .f32⟩
  | .hbm, ⟨8, _⟩ => ⟨S32x32x8192, .f32⟩
  | .hbm, ⟨9, _⟩ => ⟨S32x32x8192, .f32⟩
  | .hbm, ⟨10, _⟩ => ⟨S8192, .i32⟩
  | .hbm, ⟨11, _⟩ => ⟨S1x8192, .i32⟩
  | .hbm, ⟨12, _⟩ => ⟨S32x1, .i32⟩
  | .hbm, ⟨13, _⟩ => ⟨S32x1, .i32⟩
  | .hbm, ⟨14, _⟩ => ⟨S32x8192, .i32⟩
  | .hbm, ⟨15, _⟩ => ⟨S32x8192, .i32⟩
  | .hbm, ⟨16, _⟩ => ⟨S32x8192, .i1⟩
  | .hbm, ⟨17, _⟩ => ⟨S32x8192, .i32⟩
  | .hbm, ⟨18, _⟩ => ⟨S32x8192, .i32⟩
  | .hbm, ⟨19, _⟩ => ⟨S32x8192, .i1⟩
  | .hbm, ⟨20, _⟩ => ⟨S32x8192, .i1⟩
  | .hbm, ⟨21, _⟩ => ⟨S32x8192, .i32⟩
  | .hbm, ⟨22, _⟩ => ⟨S32x8192, .i32⟩
  | .hbm, ⟨23, _⟩ => ⟨S32x8192, .i1⟩
  | .hbm, ⟨24, _⟩ => ⟨S32x8192, .i32⟩
  | .hbm, ⟨25, _⟩ => ⟨S32x8192, .i32⟩
  | .hbm, ⟨26, _⟩ => ⟨S32x8192, .i1⟩
  | .hbm, ⟨27, _⟩ => ⟨S32x8192, .i1⟩
  | .hbm, ⟨28, _⟩ => ⟨S32x1, .i1⟩
  | .hbm, ⟨29, _⟩ => ⟨S32x8192, .i1⟩
  | .hbm, ⟨30, _⟩ => ⟨S32x8192, .i1⟩
  | .hbm, ⟨31, _⟩ => ⟨S32x1x8192, .i1⟩
  | .hbm, ⟨32, _⟩ => ⟨S_, .f32⟩
  | .hbm, ⟨33, _⟩ => ⟨S_, .f32⟩
  | .hbm, ⟨34, _⟩ => ⟨S32x1x8192, .f32⟩
  | .hbm, ⟨35, _⟩ => ⟨S32x1x8192, .f32⟩
  | .hbm, ⟨36, _⟩ => ⟨S32x1x8192, .f32⟩
  | .hbm, ⟨37, _⟩ => ⟨S32x1x8192, .f32⟩
  | .hbm, ⟨38, _⟩ => ⟨S32x32x8192, .f32⟩
  | .hbm, ⟨39, _⟩ => ⟨S32x32x8192, .f32⟩
  | .hbm, ⟨40, _⟩ => ⟨S_, .f32⟩
  | .hbm, ⟨41, _⟩ => ⟨S32x32, .f32⟩
  | .hbm, ⟨42, _⟩ => ⟨S32x32x1, .f32⟩
  | .hbm, ⟨43, _⟩ => ⟨S32x32x8192, .f32⟩
  | .hbm, ⟨44, _⟩ => ⟨S32x32x8192, .f32⟩
  | .hbm, ⟨45, _⟩ => ⟨S32x32x8192, .f32⟩
  | .hbm, ⟨46, _⟩ => ⟨S_, .f32⟩
  | .hbm, ⟨47, _⟩ => ⟨S32x32, .f32⟩
  | .hbm, ⟨48, _⟩ => ⟨S32x32x1, .f32⟩
  | .hbm, ⟨49, _⟩ => ⟨S_, .f32⟩
  | .hbm, ⟨50, _⟩ => ⟨S32x32x1, .f32⟩
  | .hbm, ⟨51, _⟩ => ⟨S32x32x1, .i1⟩
  | .hbm, ⟨52, _⟩ => ⟨S_, .f32⟩
  | .hbm, ⟨53, _⟩ => ⟨S_, .f32⟩
  | .hbm, ⟨54, _⟩ => ⟨S32x32x1, .f32⟩
  | .hbm, ⟨55, _⟩ => ⟨S32x32x1, .f32⟩
  | .hbm, ⟨56, _⟩ => ⟨S32x32x8192, .f32⟩
  | .hbm, ⟨57, _⟩ => ⟨S32x32x8192, .f32⟩
  | .hbm, ⟨58, _⟩ => ⟨S32x32x128, .f32⟩
  | _, _ => ⟨S32x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call0_v0 : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_cst_1 : Ref sig .tc := ⟨.hbm, 33, rfl⟩
abbrev main_call1_v0 : Ref sig .tc := ⟨.hbm, 34, rfl⟩
abbrev main_call1_v1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_call2_v0 : Ref sig .tc := ⟨.hbm, 53, rfl⟩
abbrev main_call2_v1 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Proof.Steps.lean ====
/-
  What one grid point of the ragged attention kernel computes, as functions of the values it reads, at any element
  arithmetic. A grid point treats one batch row and one block of 4096 keys: from the score block `sc` (32 queries by
  4096 keys) it updates the running maximum `m`, the running denominator `l` and the running numerator `a`.
-/
module

public import proofs.«01_k».proof.Proof.Gen.KernelIdeal.Skeleton

@[expose] public section

noncomputable section

namespace Cert.KernelIdeal.Hand

open Cert.KernelIdeal Cert.KernelIdeal.Gen
open Idealize.ShloMosaic

variable {F : FTy → Type} [FloatOps F] [Named F]

/-- A block of one value per query and lane. -/
abbrev Lanes (F : FTy → Type) : Type := FVec F S32x128 .f32
/-- A block of one value per query and key of the block. -/
abbrev Keys (F : FTy → Type) : Type := FVec F S32x4096 .f32

/-- `op` over `2 ^ d` leaves, as a complete binary tree with the leaves in order. -/
def tree {α : Type} (op : α → α → α) : (d : ℕ) → (ℕ → α) → α
  | 0, f => f 0
  | d + 1, f => op (tree op d f) (tree op d fun n => f (2 ^ d + n))

theorem chunk_ok (n : ℕ) : S32x4096.Slices ![0, 128 * (n % 32)] S32x128 := by
  have h : n % 32 < 32 := Nat.mod_lt _ (by decide)
  generalize n % 32 = k at h
  interval_cases k <;> decide

/-- The `n`-th run of 128 keys of a block. -/
def chunk (sc : Keys F) (n : ℕ) : Lanes F := extractStridedSlice S32x128 ![0, 128 * (n % 32)] sc (chunk_ok n)

/-- One value per query, spread over the lanes. -/
def spread (x : FVec F S32 .f32) : Lanes F :=
  broadcastTo S32x128 (shapeCast S32x1 (shapeCast S32x1 x shapeCasts_S32_S32x1) shapeCasts_S32x1_S32x1) broadcasts_S32x1_S32x128

/-- The running maximum after the block. -/
def newMax (m : Lanes F) (sc : Keys F) : Lanes F :=
  maximumf m (spread (multiReduction .maximumf [1] S32 (tree maximumf 5 (chunk sc)) 0xFF800000#32 reduces_S32x128_S32 (.inl rfl) rfl))

/-- The weights of the `n`-th run of 128 keys against the maximum `M`. -/
def weight (sc : Keys F) (M : Lanes F) (n : ℕ) : Lanes F := exp2 (subf (chunk sc n) M)

/-- The factor that brings the running sums from the maximum `m` to the maximum `M`. -/
def rescale (m M : Lanes F) : Lanes F := exp2 (subf m M)

/-- The running denominator after the block. -/
def newDen (m l : Lanes F) (sc : Keys F) : Lanes F :=
  addf (mulf (rescale m (newMax m sc)) l)
    (spread (multiReduction .add [1] S32 (tree addf 5 (weight sc (newMax m sc))) 0x00000000#32 reduces_S32x128_S32 (.inl rfl) rfl))

/-- The weights of the whole block. -/
def weights (sc : Keys F) (M : Lanes F) : Keys F :=
  concatenate S32x4096 1 (List.ofFn fun n : Fin 32 => (⟨S32x128, weight sc M n.val⟩ : (s : Shape) × (s.Idx → F .f32))) (by
    exact Cert.KernelIdeal.Gen.concatenates_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x4096_d1)

/-- The running numerator after the block, `v` the block of values. -/
def newNum (m a : Lanes F) (sc : Keys F) (v : Vec F S1x4096x128 .f32) : Lanes F :=
  addf (mulf a (rescale m (newMax m sc)))
    (matmul dot_S32x4096_S4096x128_S32x128_1_0_0_1_n_n none (weights sc (newMax m sc))
      (shapeCast S4096x128 v shapeCasts_S1x4096x128_S4096x128) (constant S32x128 .f32 0x00000000#32))

/-- The quotient stored into the result: numerator over denominator, a zero denominator counting as one. -/
def quotient (l a : Lanes F) : FVec F S1x32x128 .f32 := k0_pay8 l a

/-- The scores of a block of which every key is valid. -/
def scores (q : Vec F S1x32x128 .f32) (k : Vec F S1x4096x128 .f32) : Keys F := k0_pay4 q k

/-- The scores of block `j` of a row whose valid keys end at `e`: a key at or past the end gets the mask's value. -/
def maskedScores (j : BitVec 32) (e : BitVec 32) (q : Vec F S1x32x128 .f32) (k : Vec F S1x4096x128 .f32) : Keys F :=
  k0_pay93 (F := F) j e (k0_pay4 q k)

end Cert.KernelIdeal.Hand

end

end
-- ==== Proof.Body.lean ====
/-
  The body of the ragged attention kernel at one grid point: which values it leaves in the three scratch buffers and in the
  result's block, from the values it finds. There is one lemma for each way through the body's branches that a row whose
  valid keys end within 1 … 8192 can take.
-/
module

public import proofs.«01_k».proof.Proof.Gen.KernelIdeal.Launch
public import proofs.«01_k».proof.Proof.Steps
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.Tactic.Stretches
public import Idealize.ShloMosaic.Lib.VecWindow
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A memref whose contents read as `X` is held at `X`. -/
theorem held_of_read {c : Thread nD τ} {sp : Space} {S : Shape} {e : EltTy} {M : Memref sig c.2.kind sp S e} {f : M.view.ty.Contents (Elt F)}
    {X : S.Idx → Elt F e} (h : M.view.read (Elt F) f = X) :
    (M.view.loc c ↦[M.view.set]{fullShare} f : sProp 𝕄) ⊢ (M.view.loc c ↦[M.view.set]{fullShare} M.view.rep X) := by
  subst h
  iintro H
  iapply (rep_of_owns c M fullShare (M.view.read (Elt F) f))
  iapply (owns_intro c M fullShare f)
  iexact H

theorem pay5_eq (x : Lanes F) : k0_pay5 x = x := shapeCast_self x _
theorem pay6_eq (x : Lanes F) : k0_pay6 x = x := shapeCast_self x _
theorem pay10_eq (x : Lanes F) : k0_pay10 x = x := shapeCast_self x _

/-- The memrefs a grid point works on: the two tables, the blocks of queries, keys and values, the result's block, and
    the running maximum, denominator and numerator. -/
structure Bufs where
  of ::
  t0 : Memref sig .tc .smem S32 .i32
  ht0 : t0.IsWhole
  t1 : Memref sig .tc .smem S32 .i32
  ht1 : t1.IsWhole
  mq : Memref sig .tc .vmem S1x32x128 .f32
  hq : mq.IsWhole
  mk : Memref sig .tc .vmem S1x4096x128 .f32
  hk : mk.IsWhole
  mv : Memref sig .tc .vmem S1x4096x128 .f32
  hv : mv.IsWhole
  mo : Memref sig .tc .vmem S1x32x128 .f32
  ho : mo.IsWhole
  ms : Memref sig .tc .vmem S32x128 .f32
  hs : ms.IsWhole
  ml : Memref sig .tc .vmem S32x128 .f32
  hl : ml.IsWhole
  ma : Memref sig .tc .vmem S32x128 .f32
  ha : ma.IsWhole

/-- The body at a grid point, on the memrefs `b`. -/
abbrev Bufs.body (b : Bufs) (i : grid0.Coords) :=
  cc0__flash_body (F := F) i b.t0 b.ht0 b.t1 b.ht1 b.mq b.hq b.mk b.hk b.mv b.hv b.mo b.ho b.ms b.hs b.ml b.hl b.ma b.ha

/-- The word of a table that the grid point `i` reads: its batch row's. -/
abbrev wordAt (t : Memref sig .tc .smem S32 .i32) (T : t.view.ty.Contents (Elt F)) (i : grid0.Coords) : BitVec 32 :=
  t.view.readAt (Elt F) (Rect.unit (s := S32) (k0_off1 i) S1.size (k0_off1_inb i)).toLoadRect T
    (Shape.Idx.first (numel1_S1.symm ▸ Nat.one_pos))

/-- The tables held at `T0` and `T1`, the input blocks at `q`, `k` and `v`. -/
def ins (c : Dev nD) (b : Bufs) (q0 q1 : PosShare TreeShare) (T0 : b.t0.view.ty.Contents (Elt F)) (T1 : b.t1.view.ty.Contents (Elt F))
    (q : Vec F S1x32x128 .f32) (k v : Vec F S1x4096x128 .f32) : sProp 𝕄 :=
  iprop((b.t0.view.loc (c : Thread nD τ) ↦{q0} T0) ∗ (b.t1.view.loc (c : Thread nD τ) ↦{q1} T1)
    ∗ (b.mq.view.loc (c : Thread nD τ) ↦[b.mq.view.set]{fullShare} b.mq.view.rep q)
    ∗ (b.mk.view.loc (c : Thread nD τ) ↦[b.mk.view.set]{fullShare} b.mk.view.rep k)
    ∗ (b.mv.view.loc (c : Thread nD τ) ↦[b.mv.view.set]{fullShare} b.mv.view.rep v))

/-- The result's block held at `o`, the running maximum, denominator and numerator at `s`, `l` and `a`. -/
def outs (c : Dev nD) (b : Bufs) (o : Vec F S1x32x128 .f32) (s l a : Vec F S32x128 .f32) : sProp 𝕄 :=
  iprop((b.mo.view.loc (c : Thread nD τ) ↦[b.mo.view.set]{fullShare} b.mo.view.rep o)
    ∗ (b.ms.view.loc (c : Thread nD τ) ↦[b.ms.view.set]{fullShare} b.ms.view.rep s)
    ∗ (b.ml.view.loc (c : Thread nD τ) ↦[b.ml.view.set]{fullShare} b.ml.view.rep l)
    ∗ (b.ma.view.loc (c : Thread nD τ) ↦[b.ma.view.set]{fullShare} b.ma.view.rep a))

/-- The grid point is its row's first. -/
abbrev isFirst (i : grid0.Coords) : Prop :=
  Scalar.cmpi .ne (Scalar.extui (Scalar.cmpi .eq (BitVec.ofNat 32 (i 1).val) 0#32)) 0#32 = 1#1

variable (c : Dev nD) (b : Bufs) (i : grid0.Coords) (q0 q1 : PosShare TreeShare)
  (T0 : b.t0.view.ty.Contents (Elt F)) (T1 : b.t1.view.ty.Contents (Elt F))
  (q : Vec F S1x32x128 .f32) (k v : Vec F S1x4096x128 .f32) (o : Vec F S1x32x128 .f32) (s l a : Vec F S32x128 .f32)

/-- A row's first point on a block of which every key is valid, the row's last block: the quotient goes to the result. -/
theorem firstFullEnd (K : PUnit.{1} → sProp 𝕄) (h1 : isFirst i) (h2 : k0_cond2 i (wordAt b.t0 T0 i) = 1#1)
    (h3 : k0_cond3 i (wordAt b.t1 T1 i) = 1#1) (h5 : ¬ k0_cond5 i (wordAt b.t1 T1 i) = 1#1)
    (h4 : k0_cond4 i (wordAt b.t0 T0 i) = 1#1) :
    iprop(ins c b q0 q1 T0 T1 q k v ∗ outs c b o s l a
      ∗ (ins c b q0 q1 T0 T1 q k v
        ∗ outs c b (quotient (newDen k0_pay1 k0_pay2 (scores q k)) (newNum k0_pay1 k0_pay3 (scores q k) v))
          (newMax k0_pay1 (scores q k)) (newDen k0_pay1 k0_pay2 (scores q k))
          (newNum k0_pay1 k0_pay3 (scores q k) v) -∗ K PUnit.unit))
    ⊢ wp frame (wpE (Val := Elt F) (defs₀ (F := F)) Variants.none c none) Set.univ (b.body i) K := by
  obtain ⟨t0, ht0, t1, ht1, mq, hq, mk, hk, mv, hv, mo, ho, ms, hs, ml, hl, ma, ha⟩ := b
  unfold ins outs
  iintro ⟨⟨Ht0, Ht1, Hq, Hk, Hv⟩, ⟨Ho, Hs, Hl, Ha⟩, HK⟩
  sl_exec
  sl_step
  ihave Hs' := (held_of_read (c := (c : Thread nD τ)) (M := ms) (X := (newMax k0_pay1 (scores q k))) ?_) $$ Hs
  rotate_left
  ihave Hl' := (held_of_read (c := (c : Thread nD τ)) (M := ml) (X := (newDen k0_pay1 k0_pay2 (scores q k))) ?_) $$ Hl
  rotate_left
  ihave Ha' := (held_of_read (c := (c : Thread nD τ)) (M := ma) (X := (newNum k0_pay1 k0_pay3 (scores q k) v)) ?_) $$ Ha
  rotate_left
  ihave Ho' := (held_of_read (c := (c : Thread nD τ)) (M := mo)
    (X := quotient (newDen k0_pay1 k0_pay2 (scores q k)) (newNum k0_pay1 k0_pay3 (scores q k) v)) ?_) $$ Ho
  rotate_left
  · iapply HK
    isplitl [Ht0 Ht1 Hq Hk Hv]
    · isplitl [Ht0]; · iexact Ht0
      isplitl [Ht1]; · iexact Ht1
      isplitl [Hq]; · iexact Hq
      isplitl [Hk]; · iexact Hk
      iexact Hv
    · isplitl [Ho']; · iexact Ho'
      isplitl [Hs']; · iexact Hs'
      isplitl [Hl']; · iexact Hl'
      iexact Ha'
  · sl_open_run
    rw [View.read_writes_full, View.readAt_rep_full mq.view q, View.readAt_rep_full mk.view k, View.readCov_full, pay5_eq]
    rfl
  · sl_open_run
    rw [View.read_writes_full, pay6_eq, View.readAt_rep_full mq.view q, View.readAt_rep_full mk.view k, View.readCov_full, View.readCov_full]
    rfl
  · sl_open_run
    rw [View.read_writes_full, View.readAt_rep_full mq.view q, View.readAt_rep_full mk.view k, View.readAt_rep_full mv.view v, View.readCov_full, View.readCov_full, k0_pay7, shapeCast_self]
    rfl
  · sl_open_run
    rw [View.read_writes_full, View.readAt_rep_full mq.view q, View.readAt_rep_full mk.view k, View.readAt_rep_full mv.view v]
    refine congrArg₂ k0_pay8 ((View.readCov_full _ _ _ _ _).trans ?_) ((View.readCov_full _ _ _ _ _).trans ?_)
    · rw [pay6_eq, View.readCov_full, View.readCov_full]
      rfl
    · rw [View.readCov_full, View.readCov_full, k0_pay7, shapeCast_self]
      rfl

/-- A row's first point on a block of which every key is valid, with more blocks to come. -/
theorem firstFull (K : PUnit.{1} → sProp 𝕄) (h1 : isFirst i) (h2 : k0_cond2 i (wordAt b.t0 T0 i) = 1#1)
    (h3 : k0_cond3 i (wordAt b.t1 T1 i) = 1#1) (h5 : ¬ k0_cond5 i (wordAt b.t1 T1 i) = 1#1)
    (h4 : ¬ k0_cond4 i (wordAt b.t0 T0 i) = 1#1) :
    iprop(ins c b q0 q1 T0 T1 q k v ∗ outs c b o s l a
      ∗ (ins c b q0 q1 T0 T1 q k v
        ∗ outs c b o
          (newMax k0_pay1 (scores q k)) (newDen k0_pay1 k0_pay2 (scores q k))
          (newNum k0_pay1 k0_pay3 (scores q k) v) -∗ K PUnit.unit))
    ⊢ wp frame (wpE (Val := Elt F) (defs₀ (F := F)) Variants.none c none) Set.univ (b.body i) K := by
  obtain ⟨t0, ht0, t1, ht1, mq, hq, mk, hk, mv, hv, mo, ho, ms, hs, ml, hl, ma, ha⟩ := b
  unfold ins outs
  iintro ⟨⟨Ht0, Ht1, Hq, Hk, Hv⟩, ⟨Ho, Hs, Hl, Ha⟩, HK⟩
  sl_exec
  sl_step
  ihave Hs' := (held_of_read (c := (c : Thread nD τ)) (M := ms) (X := (newMax k0_pay1 (scores q k))) ?_) $$ Hs
  rotate_left
  ihave Hl' := (held_of_read (c := (c : Thread nD τ)) (M := ml) (X := (newDen k0_pay1 k0_pay2 (scores q k))) ?_) $$ Hl
  rotate_left
  ihave Ha' := (held_of_read (c := (c : Thread nD τ)) (M := ma) (X := (newNum k0_pay1 k0_pay3 (scores q k) v)) ?_) $$ Ha
  rotate_left
  · iapply HK
    isplitl [Ht0 Ht1 Hq Hk Hv]
    · isplitl [Ht0]; · iexact Ht0
      isplitl [Ht1]; · iexact Ht1
      isplitl [Hq]; · iexact Hq
      isplitl [Hk]; · iexact Hk
      iexact Hv
    · isplitl [Ho]; · iexact Ho
      isplitl [Hs']; · iexact Hs'
      isplitl [Hl']; · iexact Hl'
      iexact Ha'
  · sl_open_run
    rw [View.read_writes_full, View.readAt_rep_full mq.view q, View.readAt_rep_full mk.view k, View.readCov_full, pay5_eq]
    rfl
  · sl_open_run
    rw [View.read_writes_full, pay6_eq, View.readAt_rep_full mq.view q, View.readAt_rep_full mk.view k, View.readCov_full, View.readCov_full]
    rfl
  · sl_open_run
    rw [View.read_writes_full, View.readAt_rep_full mq.view q, View.readAt_rep_full mk.view k, View.readAt_rep_full mv.view v, View.readCov_full, View.readCov_full, k0_pay7, shapeCast_self]
    rfl

/-- A row's first point on a block that the row's last valid key lies in, the row's last block: the quotient goes to the result. -/
theorem firstPartEnd (K : PUnit.{1} → sProp 𝕄) (h1 : isFirst i) (h2 : k0_cond2 i (wordAt b.t0 T0 i) = 1#1)
    (h3 : ¬ k0_cond3 i (wordAt b.t1 T1 i) = 1#1) (h5 : k0_cond5 i (wordAt b.t1 T1 i) = 1#1)
    (h6 : k0_cond6 i (wordAt b.t0 T0 i) = 1#1) :
    iprop(ins c b q0 q1 T0 T1 q k v ∗ outs c b o s l a
      ∗ (ins c b q0 q1 T0 T1 q k v
        ∗ outs c b (quotient (newDen k0_pay1 k0_pay2 (maskedScores (BitVec.ofNat 32 (i 1).val) (wordAt b.t1 T1 i) q k)) (newNum k0_pay1 k0_pay3 (maskedScores (BitVec.ofNat 32 (i 1).val) (wordAt b.t1 T1 i) q k) v))
          (newMax k0_pay1 (maskedScores (BitVec.ofNat 32 (i 1).val) (wordAt b.t1 T1 i) q k)) (newDen k0_pay1 k0_pay2 (maskedScores (BitVec.ofNat 32 (i 1).val) (wordAt b.t1 T1 i) q k))
          (newNum k0_pay1 k0_pay3 (maskedScores (BitVec.ofNat 32 (i 1).val) (wordAt b.t1 T1 i) q k) v) -∗ K PUnit.unit))
    ⊢ wp frame (wpE (Val := Elt F) (defs₀ (F := F)) Variants.none c none) Set.univ (b.body i) K := by
  obtain ⟨t0, ht0, t1, ht1, mq, hq, mk, hk, mv, hv, mo, ho, ms, hs, ml, hl, ma, ha⟩ := b
  unfold ins outs
  iintro ⟨⟨Ht0, Ht1, Hq, Hk, Hv⟩, ⟨Ho, Hs, Hl, Ha⟩, HK⟩
  sl_exec
  sl_step
  ihave Hs' := (held_of_read (c := (c : Thread nD τ)) (M := ms) (X := (newMax k0_pay1 (maskedScores (BitVec.ofNat 32 (i 1).val) (wordAt t1 T1 i) q k))) ?_) $$ Hs
  rotate_left
  ihave Hl' := (held_of_read (c := (c : Thread nD τ)) (M := ml) (X := (newDen k0_pay1 k0_pay2 (maskedScores (BitVec.ofNat 32 (i 1).val) (wordAt t1 T1 i) q k))) ?_) $$ Hl
  rotate_left
  ihave Ha' := (held_of_read (c := (c : Thread nD τ)) (M := ma) (X := (newNum k0_pay1 k0_pay3 (maskedScores (BitVec.ofNat 32 (i 1).val) (wordAt t1 T1 i) q k) v)) ?_) $$ Ha
  rotate_left
  ihave Ho' := (held_of_read (c := (c : Thread nD τ)) (M := mo)
    (X := quotient (newDen k0_pay1 k0_pay2 (maskedScores (BitVec.ofNat 32 (i 1).val) (wordAt t1 T1 i) q k)) (newNum k0_pay1 k0_pay3 (maskedScores (BitVec.ofNat 32 (i 1).val) (wordAt t1 T1 i) q k) v)) ?_) $$ Ho
  rotate_left
  · iapply HK
    isplitl [Ht0 Ht1 Hq Hk Hv]
    · isplitl [Ht0]; · iexact Ht0
      isplitl [Ht1]; · iexact Ht1
      isplitl [Hq]; · iexact Hq
      isplitl [Hk]; · iexact Hk
      iexact Hv
    · isplitl [Ho']; · iexact Ho'
      isplitl [Hs']; · iexact Hs'
      isplitl [Hl']; · iexact Hl'
      iexact Ha'
  · sl_open_run
    rw [View.read_writes_full, View.readAt_rep_full mq.view q, View.readAt_rep_full mk.view k, View.readCov_full, pay10_eq]
    rfl
  · sl_open_run
    rw [View.read_writes_full, k0_pay11, shapeCast_self, View.readAt_rep_full mq.view q, View.readAt_rep_full mk.view k, View.readCov_full, View.readCov_full]
    rfl
  · sl_open_run
    rw [View.read_writes_full, View.readAt_rep_full mq.view q, View.readAt_rep_full mk.view k, View.readAt_rep_full mv.view v, View.readCov_full, View.readCov_full, k0_pay12, shapeCast_self]
    rfl
  · sl_open_run
    rw [View.read_writes_full, View.readAt_rep_full mq.view q, View.readAt_rep_full mk.view k, View.readAt_rep_full mv.view v]
    refine congrArg₂ k0_pay13 ((View.readCov_full _ _ _ _ _).trans ?_) ((View.readCov_full _ _ _ _ _).trans ?_)
    · rw [k0_pay11, shapeCast_self, View.readCov_full, View.readCov_full]
      rfl
    · rw [View.readCov_full, View.readCov_full, k0_pay12, shapeCast_self]
      rfl

/-- A row's first point on a block that the row's last valid key lies in, with more blocks to come. -/
theorem firstPart (K : PUnit.{1} → sProp 𝕄) (h1 : isFirst i) (h2 : k0_cond2 i (wordAt b.t0 T0 i) = 1#1)
    (h3 : ¬ k0_cond3 i (wordAt b.t1 T1 i) = 1#1) (h5 : k0_cond5 i (wordAt b.t1 T1 i) = 1#1)
    (h6 : ¬ k0_cond6 i (wordAt b.t0 T0 i) = 1#1) :
    iprop(ins c b q0 q1 T0 T1 q k v ∗ outs c b o s l a
      ∗ (ins c b q0 q1 T0 T1 q k v
        ∗ outs c b o
          (newMax k0_pay1 (maskedScores (BitVec.ofNat 32 (i 1).val) (wordAt b.t1 T1 i) q k)) (newDen k0_pay1 k0_pay2 (maskedScores (BitVec.ofNat 32 (i 1).val) (wordAt b.t1 T1 i) q k))
          (newNum k0_pay1 k0_pay3 (maskedScores (BitVec.ofNat 32 (i 1).val) (wordAt b.t1 T1 i) q k) v) -∗ K PUnit.unit))
    ⊢ wp frame (wpE (Val := Elt F) (defs₀ (F := F)) Variants.none c none) Set.univ (b.body i) K := by
  obtain ⟨t0, ht0, t1, ht1, mq, hq, mk, hk, mv, hv, mo, ho, ms, hs, ml, hl, ma, ha⟩ := b
  unfold ins outs
  iintro ⟨⟨Ht0, Ht1, Hq, Hk, Hv⟩, ⟨Ho, Hs, Hl, Ha⟩, HK⟩
  sl_exec
  sl_step
  ihave Hs' := (held_of_read (c := (c : Thread nD τ)) (M := ms) (X := (newMax k0_pay1 (maskedScores (BitVec.ofNat 32 (i 1).val) (wordAt t1 T1 i) q k))) ?_) $$ Hs
  rotate_left
  ihave Hl' := (held_of_read (c := (c : Thread nD τ)) (M := ml) (X := (newDen k0_pay1 k0_pay2 (maskedScores (BitVec.ofNat 32 (i 1).val) (wordAt t1 T1 i) q k))) ?_) $$ Hl
  rotate_left
  ihave Ha' := (held_of_read (c := (c : Thread nD τ)) (M := ma) (X := (newNum k0_pay1 k0_pay3 (maskedScores (BitVec.ofNat 32 (i 1).val) (wordAt t1 T1 i) q k) v)) ?_) $$ Ha
  rotate_left
  · iapply HK
    isplitl [Ht0 Ht1 Hq Hk Hv]
    · isplitl [Ht0]; · iexact Ht0
      isplitl [Ht1]; · iexact Ht1
      isplitl [Hq]; · iexact Hq
      isplitl [Hk]; · iexact Hk
      iexact Hv
    · isplitl [Ho]; · iexact Ho
      isplitl [Hs']; · iexact Hs'
      isplitl [Hl']; · iexact Hl'
      iexact Ha'
  · sl_open_run
    rw [View.read_writes_full, View.readAt_rep_full mq.view q, View.readAt_rep_full mk.view k, View.readCov_full, pay10_eq]
    rfl
  · sl_open_run
    rw [View.read_writes_full, k0_pay11, shapeCast_self, View.readAt_rep_full mq.view q, View.readAt_rep_full mk.view k, View.readCov_full, View.readCov_full]
    rfl
  · sl_open_run
    rw [View.read_writes_full, View.readAt_rep_full mq.view q, View.readAt_rep_full mk.view k, View.readAt_rep_full mv.view v, View.readCov_full, View.readCov_full, k0_pay12, shapeCast_self]
    rfl

/-- A row's second point on a block of which every key is valid, the row's last block: the quotient goes to the result. -/
theorem secondFullEnd (K : PUnit.{1} → sProp 𝕄) (h1 : ¬ isFirst i) (h2 : k0_cond2 i (wordAt b.t0 T0 i) = 1#1)
    (h3 : k0_cond3 i (wordAt b.t1 T1 i) = 1#1) (h5 : ¬ k0_cond5 i (wordAt b.t1 T1 i) = 1#1)
    (h4 : k0_cond4 i (wordAt b.t0 T0 i) = 1#1) :
    iprop(ins c b q0 q1 T0 T1 q k v ∗ outs c b o s l a
      ∗ (ins c b q0 q1 T0 T1 q k v
        ∗ outs c b (quotient (newDen s l (scores q k)) (newNum s a (scores q k) v))
          (newMax s (scores q k)) (newDen s l (scores q k))
          (newNum s a (scores q k) v) -∗ K PUnit.unit))
    ⊢ wp frame (wpE (Val := Elt F) (defs₀ (F := F)) Variants.none c none) Set.univ (b.body i) K := by
  obtain ⟨t0, ht0, t1, ht1, mq, hq, mk, hk, mv, hv, mo, ho, ms, hs, ml, hl, ma, ha⟩ := b
  unfold ins outs
  iintro ⟨⟨Ht0, Ht1, Hq, Hk, Hv⟩, ⟨Ho, Hs, Hl, Ha⟩, HK⟩
  sl_exec
  sl_step
  ihave Hs' := (held_of_read (c := (c : Thread nD τ)) (M := ms) (X := (newMax s (scores q k))) ?_) $$ Hs
  rotate_left
  ihave Hl' := (held_of_read (c := (c : Thread nD τ)) (M := ml) (X := (newDen s l (scores q k))) ?_) $$ Hl
  rotate_left
  ihave Ha' := (held_of_read (c := (c : Thread nD τ)) (M := ma) (X := (newNum s a (scores q k) v)) ?_) $$ Ha
  rotate_left
  ihave Ho' := (held_of_read (c := (c : Thread nD τ)) (M := mo)
    (X := quotient (newDen s l (scores q k)) (newNum s a (scores q k) v)) ?_) $$ Ho
  rotate_left
  · iapply HK
    isplitl [Ht0 Ht1 Hq Hk Hv]
    · isplitl [Ht0]; · iexact Ht0
      isplitl [Ht1]; · iexact Ht1
      isplitl [Hq]; · iexact Hq
      isplitl [Hk]; · iexact Hk
      iexact Hv
    · isplitl [Ho']; · iexact Ho'
      isplitl [Hs']; · iexact Hs'
      isplitl [Hl']; · iexact Hl'
      iexact Ha'
  · sl_open_run
    rw [View.read_writes_full, View.readAt_rep_full mq.view q, View.readAt_rep_full mk.view k, View.readAt_rep_full ms.view s, pay5_eq]
    rfl
  · sl_open_run
    rw [View.read_writes_full, pay6_eq, View.readAt_rep_full mq.view q, View.readAt_rep_full mk.view k, View.readAt_rep_full ms.view s, View.readAt_rep_full ml.view l]
    rfl
  · sl_open_run
    rw [View.read_writes_full, View.readAt_rep_full mq.view q, View.readAt_rep_full mk.view k, View.readAt_rep_full mv.view v, View.readAt_rep_full ms.view s, View.readAt_rep_full ma.view a, k0_pay7, shapeCast_self]
    rfl
  · sl_open_run
    rw [View.read_writes_full, View.readAt_rep_full mq.view q, View.readAt_rep_full mk.view k, View.readAt_rep_full mv.view v]
    refine congrArg₂ k0_pay8 ((View.readCov_full _ _ _ _ _).trans ?_) ((View.readCov_full _ _ _ _ _).trans ?_)
    · rw [pay6_eq, View.readAt_rep_full ms.view s, View.readAt_rep_full ml.view l]
      rfl
    · rw [View.readAt_rep_full ms.view s, View.readAt_rep_full ma.view a, k0_pay7, shapeCast_self]
      rfl

/-- A row's second point on a block that the row's last valid key lies in, the row's last block: the quotient goes to the result. -/
theorem secondPartEnd (K : PUnit.{1} → sProp 𝕄) (h1 : ¬ isFirst i) (h2 : k0_cond2 i (wordAt b.t0 T0 i) = 1#1)
    (h3 : ¬ k0_cond3 i (wordAt b.t1 T1 i) = 1#1) (h5 : k0_cond5 i (wordAt b.t1 T1 i) = 1#1)
    (h6 : k0_cond6 i (wordAt b.t0 T0 i) = 1#1) :
    iprop(ins c b q0 q1 T0 T1 q k v ∗ outs c b o s l a
      ∗ (ins c b q0 q1 T0 T1 q k v
        ∗ outs c b (quotient (newDen s l (maskedScores (BitVec.ofNat 32 (i 1).val) (wordAt b.t1 T1 i) q k)) (newNum s a (maskedScores (BitVec.ofNat 32 (i 1).val) (wordAt b.t1 T1 i) q k) v))
          (newMax s (maskedScores (BitVec.ofNat 32 (i 1).val) (wordAt b.t1 T1 i) q k)) (newDen s l (maskedScores (BitVec.ofNat 32 (i 1).val) (wordAt b.t1 T1 i) q k))
          (newNum s a (maskedScores (BitVec.ofNat 32 (i 1).val) (wordAt b.t1 T1 i) q k) v) -∗ K PUnit.unit))
    ⊢ wp frame (wpE (Val := Elt F) (defs₀ (F := F)) Variants.none c none) Set.univ (b.body i) K := by
  obtain ⟨t0, ht0, t1, ht1, mq, hq, mk, hk, mv, hv, mo, ho, ms, hs, ml, hl, ma, ha⟩ := b
  unfold ins outs
  iintro ⟨⟨Ht0, Ht1, Hq, Hk, Hv⟩, ⟨Ho, Hs, Hl, Ha⟩, HK⟩
  sl_exec
  sl_step
  ihave Hs' := (held_of_read (c := (c : Thread nD τ)) (M := ms) (X := (newMax s (maskedScores (BitVec.ofNat 32 (i 1).val) (wordAt t1 T1 i) q k))) ?_) $$ Hs
  rotate_left
  ihave Hl' := (held_of_read (c := (c : Thread nD τ)) (M := ml) (X := (newDen s l (maskedScores (BitVec.ofNat 32 (i 1).val) (wordAt t1 T1 i) q k))) ?_) $$ Hl
  rotate_left
  ihave Ha' := (held_of_read (c := (c : Thread nD τ)) (M := ma) (X := (newNum s a (maskedScores (BitVec.ofNat 32 (i 1).val) (wordAt t1 T1 i) q k) v)) ?_) $$ Ha
  rotate_left
  ihave Ho' := (held_of_read (c := (c : Thread nD τ)) (M := mo)
    (X := quotient (newDen s l (maskedScores (BitVec.ofNat 32 (i 1).val) (wordAt t1 T1 i) q k)) (newNum s a (maskedScores (BitVec.ofNat 32 (i 1).val) (wordAt t1 T1 i) q k) v)) ?_) $$ Ho
  rotate_left
  · iapply HK
    isplitl [Ht0 Ht1 Hq Hk Hv]
    · isplitl [Ht0]; · iexact Ht0
      isplitl [Ht1]; · iexact Ht1
      isplitl [Hq]; · iexact Hq
      isplitl [Hk]; · iexact Hk
      iexact Hv
    · isplitl [Ho']; · iexact Ho'
      isplitl [Hs']; · iexact Hs'
      isplitl [Hl']; · iexact Hl'
      iexact Ha'
  · sl_open_run
    rw [View.read_writes_full, View.readAt_rep_full mq.view q, View.readAt_rep_full mk.view k, View.readAt_rep_full ms.view s, pay10_eq]
    rfl
  · sl_open_run
    rw [View.read_writes_full, k0_pay11, shapeCast_self, View.readAt_rep_full mq.view q, View.readAt_rep_full mk.view k, View.readAt_rep_full ms.view s, View.readAt_rep_full ml.view l]
    rfl
  · sl_open_run
    rw [View.read_writes_full, View.readAt_rep_full mq.view q, View.readAt_rep_full mk.view k, View.readAt_rep_full mv.view v, View.readAt_rep_full ms.view s, View.readAt_rep_full ma.view a, k0_pay12, shapeCast_self]
    rfl
  · sl_open_run
    rw [View.read_writes_full, View.readAt_rep_full mq.view q, View.readAt_rep_full mk.view k, View.readAt_rep_full mv.view v]
    refine congrArg₂ k0_pay13 ((View.readCov_full _ _ _ _ _).trans ?_) ((View.readCov_full _ _ _ _ _).trans ?_)
    · rw [k0_pay11, shapeCast_self, View.readAt_rep_full ms.view s, View.readAt_rep_full ml.view l]
      rfl
    · rw [View.readAt_rep_full ms.view s, View.readAt_rep_full ma.view a, k0_pay12, shapeCast_self]
      rfl

/-- A row's second point when the row's valid keys end in the first block: nothing is read or written. -/
theorem secondIdle (K : PUnit.{1} → sProp 𝕄) (h1 : ¬ isFirst i) (h2 : ¬ k0_cond2 i (wordAt b.t0 T0 i) = 1#1) :
    iprop(ins c b q0 q1 T0 T1 q k v ∗ outs c b o s l a
      ∗ (ins c b q0 q1 T0 T1 q k v ∗ outs c b o s l a -∗ K PUnit.unit))
    ⊢ wp frame (wpE (Val := Elt F) (defs₀ (F := F)) Variants.none c none) Set.univ (b.body i) K := by
  obtain ⟨t0, ht0, t1, ht1, mq, hq, mk, hk, mv, hv, mo, ho, ms, hs, ml, hl, ma, ha⟩ := b
  unfold ins outs
  iintro ⟨⟨Ht0, Ht1, Hq, Hk, Hv⟩, ⟨Ho, Hs, Hl, Ha⟩, HK⟩
  sl_exec
  sl_step
  iapply HK
  isplitl [Ht0 Ht1 Hq Hk Hv]
  · isplitl [Ht0]; · iexact Ht0
    isplitl [Ht1]; · iexact Ht1
    isplitl [Hq]; · iexact Hq
    isplitl [Hk]; · iexact Hk
    iexact Hv
  · isplitl [Ho]; · iexact Ho
    isplitl [Hs]; · iexact Hs
    isplitl [Hl]; · iexact Hl
    iexact Ha

end Cert.KernelIdeal.Hand

end

end
-- ==== Proof.Words.lean ====
/-
  The words of the prefetched tables. A row's word is the number `n` of its valid keys, at most 8192; the effective word
  is 8192 where that is 0. The conditions of the kernel's branches and the block index of its key and value windows, in
  closed form for such words.
-/
module

public import proofs.«01_k».proof.Proof.Gen.KernelIdeal

@[expose] public section

set_option maxRecDepth 16384

noncomputable section

namespace Cert.KernelIdeal.Hand

open Cert.KernelIdeal Cert.KernelIdeal.Gen
open Idealize.ShloMosaic

/-- The number of blocks of 4096 keys that hold the first `n` keys, as the kernel computes it from the word `w`. -/
def blocksWord (w : BitVec 32) : BitVec 32 :=
  let x := Scalar.subi (Scalar.addi w 4096#32) 1#32
  let sgn (y : BitVec 32) : BitVec 32 := Scalar.subi (Scalar.extui (Scalar.cmpi .sgt y 0#32)) (Scalar.extui (Scalar.cmpi .slt y 0#32))
  let d := Scalar.divsi x 4096#32
  Scalar.select (Scalar.andi (Scalar.cmpi .ne (sgn x) (sgn 4096#32)) (Scalar.cmpi .ne (Scalar.remsi x 4096#32) 0#32)) (Scalar.subi d 1#32) d

/-- A bit as the kernel tests it: extended to a word and compared with zero. -/
def isSet (b : BitVec 1) : BitVec 1 :=
  Scalar.cmpi .ne (Scalar.extui b : BitVec 32) 0#32

theorem cond2_eq (i : grid0.Coords) (w : BitVec 32) : k0_cond2 i w = isSet (Scalar.cmpi .slt (BitVec.ofNat 32 (i 1).val) (blocksWord w)) := rfl
theorem cond4_eq (i : grid0.Coords) (w : BitVec 32) :
    k0_cond4 i w = isSet (Scalar.cmpi .eq (BitVec.ofNat 32 (i 1).val) (Scalar.subi (blocksWord w) 1#32)) := rfl
theorem cond6_eq (i : grid0.Coords) (w : BitVec 32) : k0_cond6 i w = k0_cond4 i w := rfl
theorem cond3_eq (i : grid0.Coords) (w : BitVec 32) :
    k0_cond3 i w = isSet (Scalar.xori (Scalar.cmpi .sgt (Scalar.muli (Scalar.addi (BitVec.ofNat 32 (i 1).val) 1#32) 4096#32) w) 1#1) := rfl
theorem cond5_eq (i : grid0.Coords) (w : BitVec 32) :
    k0_cond5 i w = isSet (Scalar.cmpi .sgt (Scalar.muli (Scalar.addi (BitVec.ofNat 32 (i 1).val) 1#32) 4096#32) w) := rfl

/-- The number of blocks, for every number of keys up to 8192. -/
theorem blocksWord_all : ∀ a : Fin 65, ∀ b : Fin 128, blocksWord (BitVec.ofNat 32 (128 * a.val + b.val)) = BitVec.ofNat 32 ((128 * a.val + b.val + 4095) / 4096) := by
  decide +kernel

theorem blocksWord_eq {n : ℕ} (hn : n ≤ 8192) : blocksWord (BitVec.ofNat 32 n) = BitVec.ofNat 32 ((n + 4095) / 4096) := by
  have h := blocksWord_all ⟨n / 128, by omega⟩ ⟨n % 128, Nat.mod_lt _ (by decide)⟩
  simpa only [Nat.div_add_mod] using h

/-- The comparison of a block's end with the number of valid keys, for every number up to 8192. -/
theorem past_all : ∀ j : Fin 2, ∀ a : Fin 65, ∀ b : Fin 128,
    Scalar.cmpi .sgt (Scalar.muli (Scalar.addi (BitVec.ofNat 32 j.val) 1#32) 4096#32) (BitVec.ofNat 32 (128 * a.val + b.val))
      = if (j.val + 1) * 4096 ≤ 128 * a.val + b.val then 0#1 else 1#1 := by
  decide +kernel

theorem past_eq {j : ℕ} (hj : j < 2) {n : ℕ} (hn : n ≤ 8192) :
    Scalar.cmpi .sgt (Scalar.muli (Scalar.addi (BitVec.ofNat 32 j) 1#32) 4096#32) (BitVec.ofNat 32 n)
      = if (j + 1) * 4096 ≤ n then 0#1 else 1#1 := by
  have h := past_all ⟨j, hj⟩ ⟨n / 128, by omega⟩ ⟨n % 128, Nat.mod_lt _ (by decide)⟩
  simpa only [Nat.div_add_mod] using h

theorem coord1_lt (i : grid0.Coords) : (i 1).val < 2 := (i 1).isLt

theorem slt_small : ∀ j b : Fin 3, isSet (Scalar.cmpi .slt (BitVec.ofNat 32 j.val) (BitVec.ofNat 32 b.val)) = if j.val < b.val then 1#1 else 0#1 := by
  decide
theorem last_small : ∀ j b : Fin 3, isSet (Scalar.cmpi .eq (BitVec.ofNat 32 j.val) (Scalar.subi (BitVec.ofNat 32 b.val) 1#32))
    = if j.val + 1 = b.val then 1#1 else 0#1 := by
  decide
theorem min_small : ∀ j : Fin 2, ∀ b : Fin 2, (Scalar.minsi (BitVec.ofNat 32 j.val) (Scalar.subi (BitVec.ofNat 32 (b.val + 1)) 1#32)).toNat
    = min j.val b.val := by
  decide

/-- The point's block is one of the row's. -/
theorem cond2_iff (i : grid0.Coords) {n : ℕ} (hn : n ≤ 8192) : k0_cond2 i (BitVec.ofNat 32 n) = 1#1 ↔ (i 1).val < (n + 4095) / 4096 := by
  have hj := coord1_lt i
  rw [cond2_eq, blocksWord_eq hn, slt_small ⟨(i 1).val, by omega⟩ ⟨(n + 4095) / 4096, by omega⟩]
  split <;> simp_all

/-- The point's block is the row's last. -/
theorem cond4_iff (i : grid0.Coords) {n : ℕ} (hn : n ≤ 8192) : k0_cond4 i (BitVec.ofNat 32 n) = 1#1 ↔ (i 1).val + 1 = (n + 4095) / 4096 := by
  have hj := coord1_lt i
  rw [cond4_eq, blocksWord_eq hn, last_small ⟨(i 1).val, by omega⟩ ⟨(n + 4095) / 4096, by omega⟩]
  split <;> simp_all

theorem cond6_iff (i : grid0.Coords) {n : ℕ} (hn : n ≤ 8192) : k0_cond6 i (BitVec.ofNat 32 n) = 1#1 ↔ (i 1).val + 1 = (n + 4095) / 4096 :=
  cond4_iff i hn

/-- Every key of the point's block is valid. -/
theorem cond3_iff (i : grid0.Coords) {n : ℕ} (hn : n ≤ 8192) : k0_cond3 i (BitVec.ofNat 32 n) = 1#1 ↔ ((i 1).val + 1) * 4096 ≤ n := by
  rw [cond3_eq, past_eq (coord1_lt i) hn]
  split
  · exact iff_of_true (by decide) ‹_›
  · exact iff_of_false (by decide) ‹_›

/-- Some key of the point's block is not valid. -/
theorem cond5_iff (i : grid0.Coords) {n : ℕ} (hn : n ≤ 8192) : k0_cond5 i (BitVec.ofNat 32 n) = 1#1 ↔ ¬ ((i 1).val + 1) * 4096 ≤ n := by
  rw [cond5_eq, past_eq (coord1_lt i) hn]
  split
  · exact iff_of_false (by decide) (not_not.2 ‹_›)
  · exact iff_of_true (by decide) ‹_›

/-- The point is its row's first. -/
theorem first_iff (i : grid0.Coords) : Scalar.cmpi .ne (Scalar.extui (Scalar.cmpi .eq (BitVec.ofNat 32 (i 1).val) 0#32)) 0#32 = 1#1 ↔ (i 1).val = 0 := by
  have hj := coord1_lt i
  generalize (i 1).val = j at hj
  interval_cases j <;> decide

/-- The block of keys that a point is given: its own, or its row's last when that comes before. -/
def kvBlock (j w : BitVec 32) : BitVec 32 := Scalar.minsi j (Scalar.subi (blocksWord w) 1#32)

theorem kvBlock_eq {j : ℕ} (hj : j < 2) {n : ℕ} (h1 : 1 ≤ n) (hn : n ≤ 8192) :
    (kvBlock (BitVec.ofNat 32 j) (BitVec.ofNat 32 n)).toNat = min j ((n + 4095) / 4096 - 1) := by
  have h := min_small ⟨j, hj⟩ ⟨(n + 4095) / 4096 - 1, by omega⟩
  rw [kvBlock, blocksWord_eq hn]
  simpa only [show (n + 4095) / 4096 - 1 + 1 = (n + 4095) / 4096 by omega] using h

theorem row_toNat (i : grid0.Coords) : (BitVec.ofNat 32 (i 0).val).toNat = (i 0).val := by
  have h : (i 0).val < 32 := (i 0).isLt
  rw [BitVec.toNat_ofNat, Nat.mod_eq_of_lt (by omega)]

end Cert.KernelIdeal.Hand

end

end
-- ==== Proof.Setup.lean ====
/-
  The launch of the ragged attention kernel over the extended reals: what the region finds in its arrays and tables after the
  host operations, and that its windows' blocks lie inside their arrays when every row has at most 8192 valid keys.
-/
module

public import proofs.«01_k».proof.Proof.Gen.KernelIdeal.Launch
public import proofs.«01_k».proof.Proof.Words
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F] [Named F]

local notation "𝕄" => MT nD τ sig Unit (Elt F) ℕ (UR sig nD τ) ℕ

variable (m : (ℓ : Loc nD τ sig) → Buf (Elt F) ℓ)

/-- Core `c`'s buffers when the region is entered: after the host operations. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

set_option maxHeartbeats 800000 in
/-- The program up to the region: the two stretches of host operations. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- A buffer that no host operation writes is found as launched. -/
theorem V_launched (c : Dev nD) (b : Ref sig .tc) (hb : b ∉ [main_c, main_v0, main_v1, main_c_0, main_call0_v0, main_call0_v1, main_v2]) :
    V m c b = m ((c : Thread nD τ).loc b) :=
  StableHlo.after_of_writes_sub (List.flatten [hostOps0, hostOps0_1]) _
    (StableHlo.forall_writes_sub_of_map (W := [main_c, main_v0, main_v1, main_c_0, main_call0_v0, main_call0_v1, main_v2]) rfl) hb

theorem V_main_arg0 (c : Dev nD) : V m c main_arg0 = m ((c : Thread nD τ).loc main_arg0) := V_launched m c _ (by decide)
theorem V_main_arg1 (c : Dev nD) : V m c main_arg1 = m ((c : Thread nD τ).loc main_arg1) := V_launched m c _ (by decide)
theorem V_main_arg2 (c : Dev nD) : V m c main_arg2 = m ((c : Thread nD τ).loc main_arg2) := V_launched m c _ (by decide)
theorem V_main_arg3 (c : Dev nD) : V m c main_arg3 = m ((c : Thread nD τ).loc main_arg3) := V_launched m c _ (by decide)
theorem V_main_arg4 (c : Dev nD) : V m c main_arg4 = m ((c : Thread nD τ).loc main_arg4) := V_launched m c _ (by decide)

/-- The word that says where row `x`'s valid keys end. -/
abbrev endWord (x : S32.Idx) : BitVec 32 := m (((0 : Dev nD) : Thread nD τ).loc main_arg4) x

/-- No row's valid keys end past 8192. -/
def Good : Prop := ∀ x : S32.Idx, (endWord m x).toNat ≤ 8192

/-- The table of effective ends: 8192 where the row has no valid key. -/
theorem V_main_v2 (c : Dev nD) (x : S32.Idx) : V m c main_v2 x = if endWord m x = 0#32 then 8192#32 else endWord m x := by
  obtain rfl : c = 0 := Subsingleton.elim _ _
  have h : V m (0 : Dev nD) main_v2 = select (cmpi .eq (m (((0 : Dev nD) : Thread nD τ).loc main_arg4)) (broadcastInDim S32 ![] bcast_S_S32 (constantI S_ 32 0#32)))
      (broadcastInDim S32 ![] bcast_S_S32 (constantI S_ 32 8192#32)) (m (((0 : Dev nD) : Thread nD τ).loc main_arg4)) := by
    unfold V
    simp only [hostOps0, hostOps0_1, List.flatten_cons, List.flatten_nil, List.append_nil, List.cons_append, List.nil_append]
    after_results
    rfl
  rw [h]
  show Scalar.select (Scalar.cmpi .eq (endWord m x) 0#32) 8192#32 (endWord m x) = _
  by_cases h0 : endWord m x = 0#32
  · rw [h0, if_pos rfl]; rfl
  · rw [if_neg h0]
    simp [Scalar.select, Scalar.cmpi, IntOp.cmpi, h0, beq_eq_false_iff_ne.mpr h0]

/-- The word of the first table at a batch row. -/
abbrev word0 (pf : pre0.Contents (Elt F)) (x : S32.Idx) : BitVec 32 := pf 0 x
/-- The word of the second table at a batch row. -/
abbrev word1 (pf : pre0.Contents (Elt F)) (x : S32.Idx) : BitVec 32 := pf 1 x

/-- The tables' contents when the region is entered. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The number of row `r`'s valid keys, and the number the kernel takes for placing blocks. -/
def count (x : S32.Idx) : ℕ := (endWord m x).toNat
def effCount (x : S32.Idx) : ℕ := if count m x = 0 then 8192 else count m x

theorem count_le (hm : Good m) (x : S32.Idx) : count m x ≤ 8192 := hm x
theorem effCount_le (hm : Good m) (x : S32.Idx) : effCount m x ≤ 8192 := by
  have := count_le m hm x; unfold effCount; split <;> omega
theorem effCount_pos (x : S32.Idx) : 1 ≤ effCount m x := by
  unfold effCount; split <;> omega

theorem tbl1 (x : S32.Idx) : word1 (tbl m) x = BitVec.ofNat 32 (count m x) := by
  show V m (0 : Dev nD) main_arg4 x = _
  rw [V_main_arg4, count, BitVec.ofNat_toNat, BitVec.setWidth_eq]

theorem tbl0 (x : S32.Idx) : word0 (tbl m) x = BitVec.ofNat 32 (effCount m x) := by
  show V m (0 : Dev nD) main_v2 x = _
  rw [V_main_v2]
  by_cases h : endWord m x = 0#32
  · rw [if_pos h, effCount, if_pos (by rw [count, h]; rfl)]
  · rw [if_neg h, effCount, if_neg (fun h' => h (BitVec.eq_of_toNat_eq (by simpa [count] using h'))), count, BitVec.ofNat_toNat, BitVec.setWidth_eq]

/-- The batch row that a grid point works on. -/
def row (i : grid0.Coords) : S32.Idx := fun a => ⟨k0_off1 i a, by
  have h := k0_off1_inb i a; have h1 : S1.size a = 1 := by fin_cases a; rfl
  omega⟩

/-- The one element of a row's rectangle of a table is the row's. -/
theorem unit_first (i : grid0.Coords) :
    (Rect.unit (s := S32) (k0_off1 i) S1.size (k0_off1_inb i)).emb (Shape.Idx.first (numel1_S1.symm ▸ Nat.one_pos)) = row i :=
  funext fun _ => Fin.ext rfl

/-- The word that a grid point's index map reads of the first table is its batch row's. -/
theorem at_row (pf : pre0.Contents (Elt F)) (i : grid0.Coords) :
    pf.at 0 (Rect.unit (s := S32) (k0_off1 i) S1.size (k0_off1_inb i)) numel1_S1 = word0 pf (row i) :=
  congrArg (word0 pf) (unit_first i)

/-- The key block of a grid point: the batch row's, and the block index read off the table. -/
theorem transform_1_eq (pf : pre0.Contents (Elt F)) (i : grid0.Coords) :
    cc0_transform_1 k0_off1_inb numel1_S1 pf i = ![(BitVec.ofNat 32 (i 0).val).toNat, (kvBlock (BitVec.ofNat 32 (i 1).val) (word0 pf (row i))).toNat, 0] :=
  congrArg (fun w : BitVec 32 => (![(BitVec.ofNat 32 (i 0).val).toNat, (kvBlock (BitVec.ofNat 32 (i 1).val) w).toNat, 0] : Fin 3 → ℕ)) (at_row pf i)
theorem transform_2_eq (pf : pre0.Contents (Elt F)) (i : grid0.Coords) :
    cc0_transform_2 k0_off1_inb numel1_S1 pf i = ![(BitVec.ofNat 32 (i 0).val).toNat, (kvBlock (BitVec.ofNat 32 (i 1).val) (word0 pf (row i))).toNat, 0] :=
  transform_1_eq pf i

/-- The number of blocks of a batch row, at least one. -/
def blocks (x : S32.Idx) : ℕ := (effCount m x + 4095) / 4096

theorem blocks_pos (x : S32.Idx) : 1 ≤ blocks m x := by
  have := effCount_pos m x; unfold blocks; omega
theorem blocks_le (hm : Good m) (x : S32.Idx) : blocks m x ≤ 2 := by
  have := effCount_le m hm x; unfold blocks; omega

/-- The block index at the tables' contents. -/
theorem block_eq (hm : Good m) (i : grid0.Coords) :
    (![(BitVec.ofNat 32 (i 0).val).toNat, (kvBlock (BitVec.ofNat 32 (i 1).val) (word0 (tbl m) (row i))).toNat, 0] : Fin 3 → ℕ)
      = ![(i 0).val, min (i 1).val (blocks m (row i) - 1), 0] := by
  rw [tbl0, kvBlock_eq (i 1).isLt (effCount_pos m _) (effCount_le m hm _), row_toNat, blocks]

theorem transform_1_tbl (hm : Good m) (i : grid0.Coords) :
    cc0_transform_1 k0_off1_inb numel1_S1 (tbl m) i = ![(i 0).val, min (i 1).val (blocks m (row i) - 1), 0] := by
  rw [transform_1_eq, block_eq m hm]
theorem transform_2_tbl (hm : Good m) (i : grid0.Coords) :
    cc0_transform_2 k0_off1_inb numel1_S1 (tbl m) i = ![(i 0).val, min (i 1).val (blocks m (row i) - 1), 0] := by
  rw [transform_2_eq, block_eq m hm]

theorem inside (i : grid0.Coords) (n : ℕ) (a : Fin 3) :
    ((![(i 0).val, min (i 1).val n, 0] : Fin 3 → ℕ) a + 1) * S1x4096x128.size a ≤ S32x8192x128.size a := by
  have h0 : (i 0).val < 32 := (i 0).isLt
  have h1 : (i 1).val < 2 := (i 1).isLt
  fin_cases a
  · show ((i 0).val + 1) * 1 ≤ 32; omega
  · show (min (i 1).val n + 1) * 4096 ≤ 8192; omega
  · show (0 + 1) * 128 ≤ 128; omega

/-- Every block of keys and values that the tables select lies inside its array. -/
theorem ok (hm : Good m) : ok0 (F := F) (tbl m) :=
  ⟨fun i => ⟨fun a => by rw [transform_1_tbl m hm]; exact inside i _ a, .inl rfl⟩,
   fun i => ⟨fun a => by rw [transform_2_tbl m hm]; exact inside i _ a, .inl rfl⟩⟩

/-- The tables' contents as the pipeline takes them, and the pipeline at them. -/
abbrev adm (hm : Good m) : (pcfg0 (F := F)).Adm := ⟨tbl m, ok m hm⟩
abbrev cfgM (hm : Good m) : Pipeline.Cfg sig Λ₀ := cfg0 (adm m hm)

/-- Each table as the body is handed it. -/
abbrev tab0 : Memref sig .tc .smem S32 .i32 := Memref.whole main_v2
abbrev tab1 : Memref sig .tc .smem S32 .i32 := Memref.whole main_arg4

/-- A table held at half the full share. -/
abbrev heldTab (c : Dev nD) {S : Shape} {e : EltTy} (M : Memref sig .tc .smem S e) (f : Buf (Elt F) (M.view.loc (c : Thread nD τ))) : sProp 𝕄 :=
  M.view.loc (c : Thread nD τ) ↦{fullShare.right} f

theorem tables_eq (c : Dev nD) : (Pipeline.ΦT pre0 (tbl m) c : sProp 𝕄) = iprop(heldTab c tab0 (tbl m 0) ∗ heldTab c tab1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, read off its array as the region finds it. -/
def iblk (hm : Good m) (c : Dev nD) (w : Fin (cfgM m hm).W) (t : Fin (cfgM m hm).N) :
    (((cfgM m hm).win w).xblock ((cfgM m hm).grid.coords t)).Idx → Elt F ((cfgM m hm).win w).elt :=
  (((cfgM m hm).win w).blk t).view.read (Elt F) (V m c (Pipeline.arrRef spec0 w))

end Cert.KernelIdeal.Hand

end

end
-- ==== Proof.Cases.lean ====
/-
  One grid point of the ragged attention kernel, by its place in its batch row: at the first point the running values start
  afresh and take in the row's first block; at the second they take in the row's second block, if it has one. The quotient
  goes to the result's block at the row's last block.
-/
module

public import proofs.«01_k».proof.Proof.Body
public import proofs.«01_k».proof.Proof.Setup

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem coord0 : ∀ t : Fin grid0.N, (grid0.coords t 0).val = t.val / 2 := by decide +kernel
theorem coord1 : ∀ t : Fin grid0.N, (grid0.coords t 1).val = t.val % 2 := by decide +kernel

variable (m : (ℓ : Loc nD τ sig) → Buf (Elt F) ℓ)

/-- The words of the two tables that a grid point reads. -/
theorem word0_at (i : grid0.Coords) : wordAt (F := F) tab0 (tbl m 0) i = BitVec.ofNat 32 (effCount m (row i)) :=
  (congrArg (word0 (tbl m)) (unit_first i)).trans (tbl0 m _)
theorem word1_at (i : grid0.Coords) : wordAt (F := F) tab1 (tbl m 1) i = BitVec.ofNat 32 (count m (row i)) :=
  (congrArg (word1 (tbl m)) (unit_first i)).trans (tbl1 m _)

/-- The scores a grid point takes in: of its block's keys, those past the row's end masked. -/
def blockScores (i : grid0.Coords) (q : Vec F S1x32x128 .f32) (k : Vec F S1x4096x128 .f32) : Keys F :=
  if ((i 1).val + 1) * 4096 ≤ count m (row i) then scores q k
  else maskedScores (BitVec.ofNat 32 (i 1).val) (BitVec.ofNat 32 (count m (row i))) q k

/-- The kernel writes the result's block at a grid point exactly when the point treats its row's last block. -/
theorem idle3 (hm : Good m) (i : grid0.Coords) : (cfgM m hm).idle 3 i = !decide ((i 1).val + 1 = blocks m (row i)) := by
  have hi : ∀ a : Fin 1, k0_off1 i a + 1 ≤ S32.size a := fun a => by have := k0_off1_inb i a; simpa [S1] using this
  have e0 : (tbl m).atD 0 (k0_off1 i) = BitVec.ofNat 32 (effCount m (row i)) :=
    (show (if h : ∀ a : Fin 1, k0_off1 i a + 1 ≤ S32.size a then word0 (tbl m) (fun a => ⟨k0_off1 i a, h a⟩) else default) = _ from
      (dif_pos hi).trans (tbl0 m (row i)))
  have e1 : (tbl m).atD 1 (k0_off1 i) = BitVec.ofNat 32 (count m (row i)) :=
    (show (if h : ∀ a : Fin 1, k0_off1 i a + 1 ≤ S32.size a then word1 (tbl m) (fun a => ⟨k0_off1 i a, h a⟩) else default) = _ from
      (dif_pos hi).trans (tbl1 m (row i)))
  have d2 : (k0_cond2 i (BitVec.ofNat 32 (effCount m (row i))) == 1#1) = decide ((i 1).val < blocks m (row i)) := by
    rw [Bool.eq_iff_iff, beq_iff_eq, decide_eq_true_iff]; exact cond2_iff i (effCount_le m hm _)
  have d4 : (k0_cond4 i (BitVec.ofNat 32 (effCount m (row i))) == 1#1) = decide ((i 1).val + 1 = blocks m (row i)) := by
    rw [Bool.eq_iff_iff, beq_iff_eq, decide_eq_true_iff]; exact cond4_iff i (effCount_le m hm _)
  have d6 : (k0_cond6 i (BitVec.ofNat 32 (effCount m (row i))) == 1#1) = decide ((i 1).val + 1 = blocks m (row i)) := by
    rw [Bool.eq_iff_iff, beq_iff_eq, decide_eq_true_iff]; exact cond6_iff i (effCount_le m hm _)
  have d3 : (k0_cond3 i (BitVec.ofNat 32 (count m (row i))) == 1#1) = decide (((i 1).val + 1) * 4096 ≤ count m (row i)) := by
    rw [Bool.eq_iff_iff, beq_iff_eq, decide_eq_true_iff]; exact cond3_iff i (count_le m hm _)
  have d5 : (k0_cond5 i (BitVec.ofNat 32 (count m (row i))) == 1#1) = decide (¬ ((i 1).val + 1) * 4096 ≤ count m (row i)) := by
    rw [Bool.eq_iff_iff, beq_iff_eq, decide_eq_true_iff]; exact cond5_iff i (count_le m hm _)
  show (!(k0_cond2 i ((tbl m).atD 0 (k0_off1 i)) == 1#1 && k0_cond3 i ((tbl m).atD 1 (k0_off1 i)) == 1#1 && k0_cond4 i ((tbl m).atD 0 (k0_off1 i)) == 1#1)
    && !(k0_cond2 i ((tbl m).atD 0 (k0_off1 i)) == 1#1 && k0_cond5 i ((tbl m).atD 1 (k0_off1 i)) == 1#1 && k0_cond6 i ((tbl m).atD 0 (k0_off1 i)) == 1#1)) = _
  rw [e0, e1, d2, d3, d4, d5, d6]
  by_cases hl : (i 1).val + 1 = blocks m (row i)
  · have hlt : (i 1).val < blocks m (row i) := by omega
    by_cases hf : ((i 1).val + 1) * 4096 ≤ count m (row i) <;> simp [hl, hlt, hf]
  · simp [hl]

variable (hm : Good m) (c : Dev nD) (b : Bufs) (i : grid0.Coords) (q0 q1 : PosShare TreeShare)
  (T0 : b.t0.view.ty.Contents (Elt F)) (T1 : b.t1.view.ty.Contents (Elt F))
  (q : Vec F S1x32x128 .f32) (k v : Vec F S1x4096x128 .f32) (o : Vec F S1x32x128 .f32) (s l a : Vec F S32x128 .f32)
  (hw0 : wordAt b.t0 T0 i = BitVec.ofNat 32 (effCount m (row i))) (hw1 : wordAt b.t1 T1 i = BitVec.ofNat 32 (count m (row i)))
include hm hw0 hw1

/-- A row's first point. -/
theorem first_run (K : PUnit.{1} → sProp 𝕄) (hj : (i 1).val = 0) :
    iprop(ins c b q0 q1 T0 T1 q k v ∗ outs c b o s l a
      ∗ (ins c b q0 q1 T0 T1 q k v
        ∗ outs c b (if blocks m (row i) = 1 then quotient (newDen k0_pay1 k0_pay2 (blockScores m i q k)) (newNum k0_pay1 k0_pay3 (blockScores m i q k) v) else o)
          (newMax k0_pay1 (blockScores m i q k)) (newDen k0_pay1 k0_pay2 (blockScores m i q k))
          (newNum k0_pay1 k0_pay3 (blockScores m i q k) v) -∗ K PUnit.unit))
    ⊢ wp frame (wpE (Val := Elt F) (defs₀ (F := F)) Variants.none c none) Set.univ (b.body i) K := by
  have hp := blocks_pos m (row i)
  have h1 : isFirst i := (first_iff i).mpr hj
  have h2 : k0_cond2 i (wordAt b.t0 T0 i) = 1#1 := by
    rw [hw0]; exact (cond2_iff i (effCount_le m hm _)).mpr (by rw [hj]; exact hp)
  have hlast (hb : blocks m (row i) = 1) : (i 1).val + 1 = (effCount m (row i) + 4095) / 4096 := by rw [hj]; exact hb.symm
  have hnlast (hb : ¬ blocks m (row i) = 1) : ¬ (i 1).val + 1 = (effCount m (row i) + 4095) / 4096 := by
    rw [hj]; exact fun h => hb h.symm
  by_cases hf : ((i 1).val + 1) * 4096 ≤ count m (row i)
  · have h3 : k0_cond3 i (wordAt b.t1 T1 i) = 1#1 := by rw [hw1]; exact (cond3_iff i (count_le m hm _)).mpr hf
    have h5 : ¬ k0_cond5 i (wordAt b.t1 T1 i) = 1#1 := by
      rw [hw1, cond5_iff i (count_le m hm _)]; exact fun h => h hf
    rw [show blockScores m i q k = scores q k from if_pos hf]
    by_cases hb : blocks m (row i) = 1
    · rw [if_pos hb]
      exact firstFullEnd c b i q0 q1 T0 T1 q k v o s l a K h1 h2 h3 h5
        (by rw [hw0]; exact (cond4_iff i (effCount_le m hm _)).mpr (hlast hb))
    · rw [if_neg hb]
      exact firstFull c b i q0 q1 T0 T1 q k v o s l a K h1 h2 h3 h5
        (by rw [hw0, cond4_iff i (effCount_le m hm _)]; exact hnlast hb)
  · have h3 : ¬ k0_cond3 i (wordAt b.t1 T1 i) = 1#1 := by rw [hw1, cond3_iff i (count_le m hm _)]; exact hf
    have h5 : k0_cond5 i (wordAt b.t1 T1 i) = 1#1 := by rw [hw1]; exact (cond5_iff i (count_le m hm _)).mpr hf
    rw [show blockScores m i q k = maskedScores (BitVec.ofNat 32 (i 1).val) (wordAt b.t1 T1 i) q k from (if_neg hf).trans (by rw [hw1])]
    by_cases hb : blocks m (row i) = 1
    · rw [if_pos hb]
      exact firstPartEnd c b i q0 q1 T0 T1 q k v o s l a K h1 h2 h3 h5
        (by rw [hw0]; exact (cond6_iff i (effCount_le m hm _)).mpr (hlast hb))
    · rw [if_neg hb]
      exact firstPart c b i q0 q1 T0 T1 q k v o s l a K h1 h2 h3 h5
        (by rw [hw0, cond6_iff i (effCount_le m hm _)]; exact hnlast hb)

/-- The second point of a row of two blocks. -/
theorem second_run (K : PUnit.{1} → sProp 𝕄) (hj : (i 1).val = 1) (hb : blocks m (row i) = 2) :
    iprop(ins c b q0 q1 T0 T1 q k v ∗ outs c b o s l a
      ∗ (ins c b q0 q1 T0 T1 q k v
        ∗ outs c b (quotient (newDen s l (blockScores m i q k)) (newNum s a (blockScores m i q k) v))
          (newMax s (blockScores m i q k)) (newDen s l (blockScores m i q k))
          (newNum s a (blockScores m i q k) v) -∗ K PUnit.unit))
    ⊢ wp frame (wpE (Val := Elt F) (defs₀ (F := F)) Variants.none c none) Set.univ (b.body i) K := by
  have h1 : ¬ isFirst i := fun h => by rw [(first_iff i).mp h] at hj; exact absurd hj (by decide)
  have h2 : k0_cond2 i (wordAt b.t0 T0 i) = 1#1 := by
    rw [hw0]; exact (cond2_iff i (effCount_le m hm _)).mpr (by rw [hj]; exact Nat.lt_of_lt_of_eq (by decide) hb.symm)
  have hlast : (i 1).val + 1 = (effCount m (row i) + 4095) / 4096 := by rw [hj]; exact hb.symm
  by_cases hf : ((i 1).val + 1) * 4096 ≤ count m (row i)
  · rw [show blockScores m i q k = scores q k from if_pos hf]
    exact secondFullEnd c b i q0 q1 T0 T1 q k v o s l a K h1 h2
      (by rw [hw1]; exact (cond3_iff i (count_le m hm _)).mpr hf)
      (by rw [hw1, cond5_iff i (count_le m hm _)]; exact fun h => h hf)
      (by rw [hw0]; exact (cond4_iff i (effCount_le m hm _)).mpr hlast)
  · rw [show blockScores m i q k = maskedScores (BitVec.ofNat 32 (i 1).val) (wordAt b.t1 T1 i) q k from (if_neg hf).trans (by rw [hw1])]
    exact secondPartEnd c b i q0 q1 T0 T1 q k v o s l a K h1 h2
      (by rw [hw1, cond3_iff i (count_le m hm _)]; exact hf)
      (by rw [hw1]; exact (cond5_iff i (count_le m hm _)).mpr hf)
      (by rw [hw0]; exact (cond6_iff i (effCount_le m hm _)).mpr hlast)

/-- The second point of a row of one block: nothing is done. -/
theorem second_idle (K : PUnit.{1} → sProp 𝕄) (hj : (i 1).val = 1) (hb : blocks m (row i) = 1) :
    iprop(ins c b q0 q1 T0 T1 q k v ∗ outs c b o s l a
      ∗ (ins c b q0 q1 T0 T1 q k v ∗ outs c b o s l a -∗ K PUnit.unit))
    ⊢ wp frame (wpE (Val := Elt F) (defs₀ (F := F)) Variants.none c none) Set.univ (b.body i) K :=
  secondIdle c b i q0 q1 T0 T1 q k v o s l a K (fun h => by rw [(first_iff i).mp h] at hj; exact absurd hj (by decide))
    (by rw [hw0, cond2_iff i (effCount_le m hm _), hj]; exact fun h => absurd (Nat.lt_of_lt_of_eq h hb) (by decide))

end Cert.KernelIdeal.Hand

end

end
-- ==== Proof.Run.lean ====
/-
  The run of the ragged attention kernel: what the pipeline's windows and the scratch buffers hold at every grid point, and
  so what the result's array and the arguments hold when the program has ended.
-/
module

public import proofs.«01_k».proof.Proof.Cases
public import Idealize.ShloMosaic.Lib.Quiescent

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (hm : Good m) (c : Dev nD)

/-- The grid point of block `j` of batch row `r`. -/
def pt (r : Fin 32) (j : Fin 2) : Fin grid0.N := ⟨2 * r.val + j.val, by rw [N_0]; omega⟩

theorem pt_even (t : Fin grid0.N) (h : t.val % 2 = 0) : t = pt (Fin.ofNat 32 (t.val / 2)) 0 := by
  have h1 : t.val < 64 := Nat.lt_of_lt_of_eq t.isLt N_0
  apply Fin.ext; show t.val = 2 * (t.val / 2 % 32) + 0; omega
theorem pt_odd (t : Fin grid0.N) (h : t.val % 2 = 1) : t = pt (Fin.ofNat 32 (t.val / 2)) 1 := by
  have h1 : t.val < 64 := Nat.lt_of_lt_of_eq t.isLt N_0
  apply Fin.ext; show t.val = 2 * (t.val / 2 % 32) + 1; omega
theorem pt_row (r : Fin 32) (j : Fin 2) : Fin.ofNat 32 ((pt r j).val / 2) = r := by
  apply Fin.ext; show (2 * r.val + j.val) / 2 % 32 = r.val; omega
/-- Batch row `r` as an index of the tables. -/
def rowIx (r : Fin 32) : S32.Idx := fun a => ⟨r.val, by fin_cases a; exact r.isLt⟩

theorem row_pt (r : Fin 32) (j : Fin 2) : row (grid0.coords (pt r j)) = rowIx r := by
  have hr : (2 * r.val + j.val) / 2 = r.val := by omega
  funext a; apply Fin.ext
  show k0_off1 (grid0.coords (pt r j)) a = r.val
  rw [k0_off1_eq, coord0]
  fin_cases a
  exact hr
theorem coord1_pt (r : Fin 32) (j : Fin 2) : (grid0.coords (pt r j) 1).val = j.val := by
  rw [coord1]; show (2 * r.val + j.val) % 2 = j.val; omega

/-- The blocks of queries, keys and values that the body finds at a point. -/
abbrev qAt (t : Fin grid0.N) : Vec F S1x32x128 .f32 := iblk m hm c 0 t
abbrev kAt (t : Fin grid0.N) : Vec F S1x4096x128 .f32 := iblk m hm c 1 t
abbrev vAt (t : Fin grid0.N) : Vec F S1x4096x128 .f32 := iblk m hm c 2 t

/-- The scores of a point. -/
def scAt (t : Fin grid0.N) : Keys F := blockScores m (grid0.coords t) (qAt m hm c t) (kAt m hm c t)

/-- The running maximum, denominator and numerator after a row's first block. -/
def max1 (r : Fin 32) : Lanes F := newMax k0_pay1 (scAt m hm c (pt r 0))
def den1 (r : Fin 32) : Lanes F := newDen k0_pay1 k0_pay2 (scAt m hm c (pt r 0))
def num1 (r : Fin 32) : Lanes F := newNum k0_pay1 k0_pay3 (scAt m hm c (pt r 0)) (vAt m hm c (pt r 0))

/-- A row's result: the quotient after its last block. -/
def rowOut (r : Fin 32) : Vec F S1x32x128 .f32 :=
  if blocks m (rowIx r) = 1 then quotient (den1 m hm c r) (num1 m hm c r)
  else quotient (newDen (max1 m hm c r) (den1 m hm c r) (scAt m hm c (pt r 1)))
    (newNum (max1 m hm c r) (num1 m hm c r) (scAt m hm c (pt r 1)) (vAt m hm c (pt r 1)))

/-- The scratch buffers before point `n`: at a row's second point they hold what its first point left, at a row's first
    point anything. -/
def scratch (n : ℕ) : sProp 𝕄 :=
  if n % 2 = 1 then
    iprop(owns (c : Thread nD τ) (Memref.whole cc0_scratch0) fullShare (max1 m hm c (Fin.ofNat 32 (n / 2)))
      ∗ owns (c : Thread nD τ) (Memref.whole cc0_scratch1) fullShare (den1 m hm c (Fin.ofNat 32 (n / 2)))
      ∗ owns (c : Thread nD τ) (Memref.whole cc0_scratch2) fullShare (num1 m hm c (Fin.ofNat 32 (n / 2))))
  else
    iprop((∃ s, owns (c : Thread nD τ) (Memref.whole cc0_scratch0) fullShare s)
      ∗ (∃ l, owns (c : Thread nD τ) (Memref.whole cc0_scratch1) fullShare l)
      ∗ (∃ a, owns (c : Thread nD τ) (Memref.whole cc0_scratch2) fullShare a))

/-- What the points carry: the scratch buffers, the generator register and the two tables. -/
def Phi (n : ℕ) : sProp 𝕄 :=
  iprop(scratch m hm c n ∗ (∃ r, prngReg c r) ∗ heldTab c tab0 (tbl m 0) ∗ heldTab c tab1 (tbl m 1))

theorem phi_even {n : ℕ} (h : n % 2 = 0) : iprop(Pipeline.ΦA spec0 c ∗ Pipeline.ΦT pre0 (tbl m) c) ⊢ (Phi m hm c n : sProp 𝕄) := by
  rw [tables_eq, Phi, scratch, if_neg (by omega)]
  unfold Pipeline.ΦA
  rw [scopedRest0_eq]; simp only [owns_whole]
  iintro ⟨⟨HS, Hg⟩, HT⟩
  isplitl [HS]; · iexact HS
  isplitl [Hg]; · iexact Hg
  iexact HT

theorem even_phi {n : ℕ} (h : n % 2 = 0) : (Phi m hm c n : sProp 𝕄) ⊢ Pipeline.ΦA spec0 c := by
  rw [Phi, scratch, if_neg (by omega)]
  unfold Pipeline.ΦA
  rw [scopedRest0_eq]; simp only [owns_whole]
  iintro ⟨HS, Hg, -⟩
  isplitl [HS]; · iexact HS
  iexact Hg

/-- The proof data on core `c`: the arrays as the region finds them; each input's block in its buffer at every point, and in
    the result's buffer its row's result. -/
def dats (_ : Fin 1) (c : Dev nD) : Dat τ (Elt F) Unit ℕ (UR sig nD τ) ℕ (cfgM m hm) c where
  A w := V m c (Pipeline.arrRef spec0 w)
  after w t := match w with
    | 0 => iblk m hm c 0 t
    | 1 => iblk m hm c 1 t
    | 2 => iblk m hm c 2 t
    | 3 => rowOut m hm c (Fin.ofNat 32 (t.val / 2))
    | ⟨_ + 4, h⟩ => absurd h (Nat.not_lt.2 (Nat.le_add_left _ _))
  Φ t := Phi m hm c t.val
  q _ := fullShare
  owed _ := 0

theorem A_eq (w : Fin 4) : (dats m hm 0 c).A w = V m c (Pipeline.arrRef spec0 w) := by dsimp only [dats]

theorem before_0 (t : Fin (cfgM m hm).N) (d) : (dats m hm 0 c).before 0 t d = iblk m hm c 0 t :=
  ((dats m hm 0 c).before_in_eq_fetched 0 rfl (fun _ => rfl) (fun _ _ _ => rfl) (fun _ => rfl) t d).trans rfl
theorem before_1 (t : Fin (cfgM m hm).N) (d) : (dats m hm 0 c).before 1 t d = iblk m hm c 1 t :=
  ((dats m hm 0 c).before_in_eq_fetched 1 rfl (fun _ => rfl) (fun _ _ _ => rfl) (fun _ => rfl) t d).trans rfl
theorem before_2 (t : Fin (cfgM m hm).N) (d) : (dats m hm 0 c).before 2 t d = iblk m hm c 2 t :=
  ((dats m hm 0 c).before_in_eq_fetched 2 rfl (fun _ => rfl) (fun _ _ _ => rfl) (fun _ => rfl) t d).trans rfl

/-- The result's block is written back at a row's second point. -/
theorem flush_3 (t : Fin (cfgM m hm).N) : ((cfgM m hm).win 3).flush t = true ↔ t.val % 2 = 1 :=
  (fun t => Pipeline.Window.flushOf_reads cc0_transform_3 reads0_3 hreads0_3 0 (by decide) (by decide)
    (Pipeline.Window.sep_of_coord cc0_transform_3 0 0 (fun _ => rfl) (by decide)) (P := 2) (m := 1) (by decide) rfl t
    : ∀ t : Fin grid0.N, Pipeline.Window.flushOf grid0 true cc0_transform_3 t = true ↔ t.val % 2 = 1) t

theorem flush_first (r : Fin 32) : ((cfgM m hm).win 3).flush (pt r 0) = false := by
  rw [Bool.eq_false_iff]; intro h
  have := (flush_3 m hm (pt r 0)).mp h
  have : (2 * r.val + 0) % 2 = 1 := this
  omega
theorem flush_second (r : Fin 32) : ((cfgM m hm).win 3).flush (pt r 1) = true := by
  rw [flush_3]; show (2 * r.val + 1) % 2 = 1; omega

theorem idle_pt (r : Fin 32) (j : Fin 2) :
    (cfgM m hm).idle 3 ((cfgM m hm).grid.coords (pt r j)) = !decide (j.val + 1 = blocks m (rowIx r)) :=
  (idle3 m hm (grid0.coords (pt r j))).trans (by rw [row_pt, coord1_pt])

/-- At the second point of a row of one block, the result's buffer holds the row's result. -/
theorem before_3 (r : Fin 32) (hb : blocks m (rowIx r) = 1) (d) : (dats m hm 0 c).before 3 (pt r 1) d = rowOut m hm c r := by
  have e : (⟨(pt r 1).val - 1, Nat.lt_of_le_of_lt (Nat.sub_le _ _) (pt r 1).isLt⟩ : Fin (cfgM m hm).N) = pt r 0 := Fin.ext rfl
  rw [(dats m hm 0 c).before_of_pos 3 (pt r 1) (by show 2 * r.val + 1 ≠ 0; omega) (((cfgM m hm).win 3).fetch_out rfl _) d, e,
    flush_first, if_neg Bool.false_ne_true]
  unfold Dat.left
  rw [idle_pt, hb]
  show rowOut m hm c (Fin.ofNat 32 ((pt r 0).val / 2)) = _
  rw [pt_row]

/-- The result's buffer held at `X` at a point. -/
abbrev resultHeld (t : Fin (cfgM m hm).N) (X : Vec F S1x32x128 .f32) : sProp 𝕄 :=
  owns (c : Thread nD τ) (((cfgM m hm).win 3).stage ((cfgM m hm).slots t 3)) fullShare X

theorem leaves_live (r : Fin 32) (j : Fin 2) (h : j.val + 1 = blocks m (rowIx r)) :
    (dats m hm 0 c).leavesExact 3 (pt r j) = resultHeld m hm c (pt r j) (rowOut m hm c r) := by
  unfold Dat.leavesExact
  rw [idle_pt, decide_eq_true h]
  show resultHeld m hm c (pt r j) (rowOut m hm c (Fin.ofNat 32 ((pt r j).val / 2))) = _
  rw [pt_row]
theorem leaves_back (r : Fin 32) (h : blocks m (rowIx r) = 1) :
    (dats m hm 0 c).leavesExact 3 (pt r 1) = resultHeld m hm c (pt r 1) (rowOut m hm c r) := by
  unfold Dat.leavesExact
  rw [idle_pt, h, flush_second]
  show resultHeld m hm c (pt r 1) (rowOut m hm c (Fin.ofNat 32 ((pt r 1).val / 2))) = _
  rw [pt_row]
theorem leaves_idle (r : Fin 32) (h : ¬ blocks m (rowIx r) = 1) :
    (dats m hm 0 c).leavesExact 3 (pt r 0) = iprop(∃ d, resultHeld m hm c (pt r 0) ((dats m hm 0 c).before 3 (pt r 0) d)) := by
  unfold Dat.leavesExact
  rw [idle_pt, decide_eq_false (fun h' => h h'.symm), flush_first]
  rfl

/-- What the body finds and leaves at a point, window by window. -/
def bodyPre (t : Fin (cfgM m hm).N) : sProp 𝕄 :=
  iprop(Phi m hm c t.val ∗ (dats m hm 0 c).owesAt () t.castSucc
    ∗ (∃ d, owns (c : Thread nD τ) (((cfgM m hm).win 0).stage ((cfgM m hm).slots t 0)) fullShare ((dats m hm 0 c).before 0 t d))
    ∗ (∃ d, owns (c : Thread nD τ) (((cfgM m hm).win 1).stage ((cfgM m hm).slots t 1)) fullShare ((dats m hm 0 c).before 1 t d))
    ∗ (∃ d, owns (c : Thread nD τ) (((cfgM m hm).win 2).stage ((cfgM m hm).slots t 2)) fullShare ((dats m hm 0 c).before 2 t d))
    ∗ (∃ d, owns (c : Thread nD τ) (((cfgM m hm).win 3).stage ((cfgM m hm).slots t 3)) fullShare ((dats m hm 0 c).before 3 t d)))
def bodyPost (t : Fin (cfgM m hm).N) : sProp 𝕄 :=
  iprop(Phi m hm c (t.val + 1) ∗ (dats m hm 0 c).owesAt () t.succ
    ∗ owns (c : Thread nD τ) (((cfgM m hm).win 0).stage ((cfgM m hm).slots t 0)) fullShare (iblk m hm c 0 t)
    ∗ owns (c : Thread nD τ) (((cfgM m hm).win 1).stage ((cfgM m hm).slots t 1)) fullShare (iblk m hm c 1 t)
    ∗ owns (c : Thread nD τ) (((cfgM m hm).win 2).stage ((cfgM m hm).slots t 2)) fullShare (iblk m hm c 2 t)
    ∗ (dats m hm 0 c).leavesExact 3 t)

/-- The memrefs a point works on. -/
abbrev bufs (t : Fin (cfgM m hm).N) : Bufs :=
  .of (Memref.whole main_v2) (Memref.isWhole_whole _) (Memref.whole main_arg4) (Memref.isWhole_whole _)
    (spec0_0.stage ((cfgM m hm).slots t 0)) (hstage0_0 (((cfgM m hm).slots t 0).cast nbuf0_0))
    (spec0_1.stage ((cfgM m hm).slots t 1)) (hstage0_1 (((cfgM m hm).slots t 1).cast nbuf0_1))
    (spec0_2.stage ((cfgM m hm).slots t 2)) (hstage0_2 (((cfgM m hm).slots t 2).cast nbuf0_2))
    (spec0_3.stage ((cfgM m hm).slots t 3)) (hstage0_3 (((cfgM m hm).slots t 3).cast nbuf0_3))
    (Memref.whole cc0_scratch0) (Memref.isWhole_whole _) (Memref.whole cc0_scratch1) (Memref.isWhole_whole _)
    (Memref.whole cc0_scratch2) (Memref.isWhole_whole _)

theorem ins_eq (b : Bufs) (q0 q1 : PosShare TreeShare) (T0 : b.t0.view.ty.Contents (Elt F)) (T1 : b.t1.view.ty.Contents (Elt F))
    (q : Vec F S1x32x128 .f32) (k v : Vec F S1x4096x128 .f32) :
    (ins c b q0 q1 T0 T1 q k v : sProp 𝕄) = iprop((b.t0.view.loc (c : Thread nD τ) ↦{q0} T0) ∗ (b.t1.view.loc (c : Thread nD τ) ↦{q1} T1)
      ∗ owns (c : Thread nD τ) b.mq fullShare q ∗ owns (c : Thread nD τ) b.mk fullShare k ∗ owns (c : Thread nD τ) b.mv fullShare v) := by
  unfold ins; rw [owns_eq_rep, owns_eq_rep, owns_eq_rep]

theorem outs_eq (b : Bufs) (o : Vec F S1x32x128 .f32) (s l a : Vec F S32x128 .f32) :
    (outs c b o s l a : sProp 𝕄) = iprop(owns (c : Thread nD τ) b.mo fullShare o ∗ owns (c : Thread nD τ) b.ms fullShare s
      ∗ owns (c : Thread nD τ) b.ml fullShare l ∗ owns (c : Thread nD τ) b.ma fullShare a) := by
  unfold outs; rw [owns_eq_rep, owns_eq_rep, owns_eq_rep, owns_eq_rep]

/-- A run of the body over the blocks' points-to, restated over the blocks owned. -/
theorem owned (b : Bufs) {q0 q1 : PosShare TreeShare} {T0 : b.t0.view.ty.Contents (Elt F)} {T1 : b.t1.view.ty.Contents (Elt F)}
    {q : Vec F S1x32x128 .f32} {k v : Vec F S1x4096x128 .f32} {o o' : Vec F S1x32x128 .f32} {s l a s' l' a' : Vec F S32x128 .f32}
    {P Q : sProp 𝕄}
    (h : iprop(ins c b q0 q1 T0 T1 q k v ∗ outs c b o s l a ∗ (ins c b q0 q1 T0 T1 q k v ∗ outs c b o' s' l' a' -∗ Q)) ⊢ P) :
    iprop(((b.t0.view.loc (c : Thread nD τ) ↦{q0} T0) ∗ (b.t1.view.loc (c : Thread nD τ) ↦{q1} T1)
        ∗ owns (c : Thread nD τ) b.mq fullShare q ∗ owns (c : Thread nD τ) b.mk fullShare k ∗ owns (c : Thread nD τ) b.mv fullShare v)
      ∗ (owns (c : Thread nD τ) b.mo fullShare o ∗ owns (c : Thread nD τ) b.ms fullShare s
        ∗ owns (c : Thread nD τ) b.ml fullShare l ∗ owns (c : Thread nD τ) b.ma fullShare a)
      ∗ (((b.t0.view.loc (c : Thread nD τ) ↦{q0} T0) ∗ (b.t1.view.loc (c : Thread nD τ) ↦{q1} T1)
          ∗ owns (c : Thread nD τ) b.mq fullShare q ∗ owns (c : Thread nD τ) b.mk fullShare k ∗ owns (c : Thread nD τ) b.mv fullShare v)
        ∗ (owns (c : Thread nD τ) b.mo fullShare o' ∗ owns (c : Thread nD τ) b.ms fullShare s'
          ∗ owns (c : Thread nD τ) b.ml fullShare l' ∗ owns (c : Thread nD τ) b.ma fullShare a') -∗ Q)) ⊢ P := by
  rw [ins_eq, outs_eq, outs_eq] at h; exact h

theorem first_leaves (r : Fin 32) (X : Vec F S1x32x128 .f32)
    (hX : resultHeld m hm c (pt r 0) X ⊢ iprop(∃ d, resultHeld m hm c (pt r 0) ((dats m hm 0 c).before 3 (pt r 0) d))) :
    resultHeld m hm c (pt r 0) (if blocks m (row (grid0.coords (pt r 0))) = 1 then
        quotient (newDen k0_pay1 k0_pay2 (scAt m hm c (pt r 0))) (newNum k0_pay1 k0_pay3 (scAt m hm c (pt r 0)) (vAt m hm c (pt r 0)))
      else X) ⊢ (dats m hm 0 c).leavesExact 3 (pt r 0) := by
  rw [row_pt]
  by_cases hb : blocks m (rowIx r) = 1
  · rw [if_pos hb, leaves_live m hm c r 0 hb.symm, show rowOut m hm c r = _ from if_pos hb]
    exact .rfl
  · rw [if_neg hb, leaves_idle m hm c r hb]
    exact hX

/-- The body at a row's first point. -/
theorem sound_first (r : Fin 32) :
    bodyPre m hm c (pt r 0) ⊢ wp frame (wpE (Val := Elt F) (defs₀ (F := F)) Variants.none c none) Set.univ
      ((bufs m hm (pt r 0)).body (F := F) (grid0.coords (pt r 0))) (fun _ => bodyPost m hm c (pt r 0)) := by
  have hv : (pt r 0).val = 2 * r.val := rfl
  unfold bodyPre bodyPost
  rw [show (dats m hm 0 c).owesAt () (pt r 0).succ = (dats m hm 0 c).owesAt () (pt r 0).castSucc from rfl]
  simp only [before_0, before_1, before_2]
  unfold Phi scratch
  rw [if_neg (by omega), if_pos (by omega)]
  iintro ⟨⟨⟨⟨%s, Hs⟩, ⟨%l, Hl⟩, ⟨%a, Ha⟩⟩, Hg, Ht0, Ht1⟩, HO, ⟨%d0, H0⟩, ⟨%d1, H1⟩, ⟨%d2, H2⟩, ⟨%d3, H3⟩⟩
  iapply (owned c (bufs m hm (pt r 0)) (first_run m hm c (bufs m hm (pt r 0)) (grid0.coords (pt r 0)) fullShare.right fullShare.right (tbl m 0) (tbl m 1)
    (qAt m hm c (pt r 0)) (kAt m hm c (pt r 0)) (vAt m hm c (pt r 0)) ((dats m hm 0 c).before 3 (pt r 0) d3) s l a
    (word0_at m _) (word1_at m _) _ (coord1_pt r 0)))
  isplitl [Ht0 Ht1 H0 H1 H2]
  · isplitl [Ht0]; · iexact Ht0
    isplitl [Ht1]; · iexact Ht1
    isplitl [H0]; · iexact H0
    isplitl [H1]; · iexact H1
    iexact H2
  isplitl [H3 Hs Hl Ha]
  · isplitl [H3]; · iexact H3
    isplitl [Hs]; · iexact Hs
    isplitl [Hl]; · iexact Hl
    iexact Ha
  iintro ⟨⟨Ht0, Ht1, H0, H1, H2⟩, H3, Hs, Hl, Ha⟩
  isplitl [Hs Hl Ha Hg Ht0 Ht1]
  · isplitl [Hs Hl Ha]
    · have e : Fin.ofNat 32 (((pt r 0).val + 1) / 2) = r := Fin.ext (by show (2 * r.val + 0 + 1) / 2 % 32 = r.val; omega)
      rw [e]
      isplitl [Hs]; · iexact Hs
      isplitl [Hl]; · iexact Hl
      iexact Ha
    isplitl [Hg]; · iexact Hg
    isplitl [Ht0]; · iexact Ht0
    iexact Ht1
  isplitl [HO]; · iexact HO
  isplitl [H0]; · iexact H0
  isplitl [H1]; · iexact H1
  isplitl [H2]; · iexact H2
  iapply (first_leaves m hm c r ((dats m hm 0 c).before 3 (pt r 0) d3) (by iintro H; iexists d3; iexact H))
  iexact H3

/-- The body at a row's second point. -/
theorem sound_second (r : Fin 32) :
    bodyPre m hm c (pt r 1) ⊢ wp frame (wpE (Val := Elt F) (defs₀ (F := F)) Variants.none c none) Set.univ
      ((bufs m hm (pt r 1)).body (F := F) (grid0.coords (pt r 1))) (fun _ => bodyPost m hm c (pt r 1)) := by
  have hv : (pt r 1).val = 2 * r.val + 1 := rfl
  have e : Fin.ofNat 32 ((pt r 1).val / 2) = r := pt_row r 1
  unfold bodyPre bodyPost
  rw [show (dats m hm 0 c).owesAt () (pt r 1).succ = (dats m hm 0 c).owesAt () (pt r 1).castSucc from rfl]
  simp only [before_0, before_1, before_2]
  unfold Phi scratch
  rw [if_pos (by omega), if_neg (by omega), e]
  iintro ⟨⟨⟨Hs, Hl, Ha⟩, Hg, Ht0, Ht1⟩, HO, ⟨%d0, H0⟩, ⟨%d1, H1⟩, ⟨%d2, H2⟩, ⟨%d3, H3⟩⟩
  by_cases hb : blocks m (rowIx r) = 1
  · iapply (owned c (bufs m hm (pt r 1)) (second_idle m hm c (bufs m hm (pt r 1)) (grid0.coords (pt r 1)) fullShare.right fullShare.right (tbl m 0) (tbl m 1)
      (qAt m hm c (pt r 1)) (kAt m hm c (pt r 1)) (vAt m hm c (pt r 1)) ((dats m hm 0 c).before 3 (pt r 1) d3)
      (max1 m hm c r) (den1 m hm c r) (num1 m hm c r)
      (word0_at m _) (word1_at m _) _ (coord1_pt r 1) (by rw [row_pt]; exact hb)))
    isplitl [Ht0 Ht1 H0 H1 H2]
    · isplitl [Ht0]; · iexact Ht0
      isplitl [Ht1]; · iexact Ht1
      isplitl [H0]; · iexact H0
      isplitl [H1]; · iexact H1
      iexact H2
    isplitl [H3 Hs Hl Ha]
    · isplitl [H3]; · iexact H3
      isplitl [Hs]; · iexact Hs
      isplitl [Hl]; · iexact Hl
      iexact Ha
    iintro ⟨⟨Ht0, Ht1, H0, H1, H2⟩, H3, Hs, Hl, Ha⟩
    isplitl [Hs Hl Ha Hg Ht0 Ht1]
    · isplitl [Hs Hl Ha]
      · isplitl [Hs]; · iexists _; iexact Hs
        isplitl [Hl]; · iexists _; iexact Hl
        iexists _; iexact Ha
      isplitl [Hg]; · iexact Hg
      isplitl [Ht0]; · iexact Ht0
      iexact Ht1
    isplitl [HO]; · iexact HO
    isplitl [H0]; · iexact H0
    isplitl [H1]; · iexact H1
    isplitl [H2]; · iexact H2
    have hpost : resultHeld m hm c (pt r 1) ((dats m hm 0 c).before 3 (pt r 1) d3) ⊢ (dats m hm 0 c).leavesExact 3 (pt r 1) := by
      rw [before_3 m hm c r hb, leaves_back m hm c r hb]
    iapply hpost
    iexact H3
  · have hb2 : blocks m (rowIx r) = 2 := by have := blocks_pos m (rowIx r); have := blocks_le m hm (rowIx r); omega
    iapply (owned c (bufs m hm (pt r 1)) (second_run m hm c (bufs m hm (pt r 1)) (grid0.coords (pt r 1)) fullShare.right fullShare.right (tbl m 0) (tbl m 1)
      (qAt m hm c (pt r 1)) (kAt m hm c (pt r 1)) (vAt m hm c (pt r 1)) ((dats m hm 0 c).before 3 (pt r 1) d3)
      (max1 m hm c r) (den1 m hm c r) (num1 m hm c r)
      (word0_at m _) (word1_at m _) _ (coord1_pt r 1) (by rw [row_pt]; exact hb2)))
    isplitl [Ht0 Ht1 H0 H1 H2]
    · isplitl [Ht0]; · iexact Ht0
      isplitl [Ht1]; · iexact Ht1
      isplitl [H0]; · iexact H0
      isplitl [H1]; · iexact H1
      iexact H2
    isplitl [H3 Hs Hl Ha]
    · isplitl [H3]; · iexact H3
      isplitl [Hs]; · iexact Hs
      isplitl [Hl]; · iexact Hl
      iexact Ha
    iintro ⟨⟨Ht0, Ht1, H0, H1, H2⟩, H3, Hs, Hl, Ha⟩
    isplitl [Hs Hl Ha Hg Ht0 Ht1]
    · isplitl [Hs Hl Ha]
      · isplitl [Hs]; · iexists _; iexact Hs
        isplitl [Hl]; · iexists _; iexact Hl
        iexists _; iexact Ha
      isplitl [Hg]; · iexact Hg
      isplitl [Ht0]; · iexact Ht0
      iexact Ht1
    isplitl [HO]; · iexact HO
    isplitl [H0]; · iexact H0
    isplitl [H1]; · iexact H1
    isplitl [H2]; · iexact H2
    have hpost : resultHeld m hm c (pt r 1) (quotient (newDen (max1 m hm c r) (den1 m hm c r) (scAt m hm c (pt r 1)))
        (newNum (max1 m hm c r) (num1 m hm c r) (scAt m hm c (pt r 1)) (vAt m hm c (pt r 1)))) ⊢ (dats m hm 0 c).leavesExact 3 (pt r 1) := by
      rw [leaves_live m hm c r 1 hb2.symm, show rowOut m hm c r = _ from if_neg hb]
    iapply hpost
    iexact H3

/-- The body table's row at a point is the body on the point's memrefs. -/
theorem defs₀_row (t : Fin (cfgM m hm).N) :
    defs₀ (F := F) .tc (cfgM m hm).body ((cfgM m hm).bodyArgs t ((cfgM m hm).slots t)) = (bufs m hm t).body (F := F) (grid0.coords t) := by
  unfold defs₀; rw [Defs.onTc_tc]

theorem sound_body (t : Fin (cfgM m hm).N) :
    bodyPre m hm c t ⊢ wp frame (wpE (Val := Elt F) (defs₀ (F := F)) Variants.none c none) Set.univ
      ((bufs m hm t).body (F := F) (grid0.coords t)) (fun _ => bodyPost m hm c t) := by
  rcases Nat.mod_two_eq_zero_or_one t.val with h | h
  · rw [pt_even t h]; exact sound_first m hm c _
  · rw [pt_odd t h]; exact sound_second m hm c _

theorem body_obligation : BodyObligation (dats (F := F) m hm 0 c) (defs₀ (F := F)) Variants.none () Set.univ := fun t => by
  rw [bigSep_W0, bigSep_W0, defs₀_row]
  exact triple_restated (sound_body m hm c t) rfl .rfl fun _ => .rfl

set_option backward.isDefEq.respectTransparency.types false in
/-- Every run of the program ends, with every window's array at its final contents, every other buffer as the region found
    it, and every counter at zero. -/
theorem run_main :
    θ_run defs (onTc (τ := τ) (main (F := F))) (s₀ m ρ)
      (fun r => Pipeline.FramePost (Pipeline.pin pcfgs fun _ => adm m hm) (dats m hm) 0 (V m) r ∧ r.2.sem = fun _ => 0) :=
  Pipeline.θ_run_frameP_track (Q' := _) pcfgs (fun _ => adm m hm) (dats m hm) (0 : Fin 1) launch0 defs₀ Variants.none m ρ main
    (hbody := fun c => (body_obligation m hm c).loose) (hshare := fun c => (dats m hm 0 c).share_full fun _ => rfl)
    (howed := fun _ _ => rfl) (V := V m) (hmain := hmain m Variants.none) (hA := fun c w => A_eq m hm c w)
    (hpf := fun c k => V_pre m c k) (hin := fun c => phi_even m hm c rfl)
    (hout := fun c => even_phi m hm c (by show 64 % 2 = 0; rfl)) (hQ' := fun _ h => h)

end Cert.KernelIdeal.Hand

end

end
-- ==== Proof.Result.lean ====
/-
  What the ragged attention kernel leaves: the result's array holds every batch row's quotient, the arguments are unchanged
  and every counter is at zero.
-/
module

public import proofs.«01_k».proof.Proof.Run
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable {F : FTy → Type} [FloatOps F] [Named F]

variable (m : (ℓ : Loc nD τ sig) → Buf (Elt F) ℓ) (ρ : Dev nD → PrngReg) (hm : Good m) (c : Dev nD)

/-- Query `h` and lane `d` of a row's block. -/
def inRow (h : Fin 32) (d : Fin 128) : S1x32x128.Idx := fun a => match a with
  | ⟨0, _⟩ => ⟨0, Nat.one_pos⟩
  | ⟨1, _⟩ => h
  | ⟨2, _⟩ => d

/-- The result's array: each batch row's quotient. -/
def result : Vec F S32x32x128 .f32 := fun x => rowOut m hm c (x 0) (inRow (x 1) (x 2))

/-- The block of the result's array that a point works on. -/
abbrev index3 (t : Fin (cfgM m hm).N) : Fin 3 → ℕ := ((cfgM m hm).win 3).index t

theorem index_3 (t : Fin (cfgM m hm).N) : index3 m hm t = ![t.val / 2, 0, 0] := by
  show (![(BitVec.ofNat 32 (grid0.coords t 0).val).toNat, 0, 0] : Fin 3 → ℕ) = _
  rw [coord0, BitVec.toNat_ofNat, Nat.mod_eq_of_lt]
  have h1 : t.val < 64 := Nat.lt_of_lt_of_eq t.isLt N_0
  omega

/-- A row's block read off the result's array is its quotient. -/
theorem flushed_eq (t : Fin (cfgM m hm).N) (_ : ((cfgM m hm).win 3).flush t = true) :
    (dats m hm 0 c).flushed 3 t = (((cfgM m hm).win 3).blk t).view.read (Elt F) (result m hm c) := by
  have h1 : t.val < 64 := Nat.lt_of_lt_of_eq t.isLt N_0
  have e0 : index3 m hm t 0 = t.val / 2 := congrFun (index_3 m hm t) 0
  have e1 : index3 m hm t 1 = 0 := congrFun (index_3 m hm t) 1
  have e2 : index3 m hm t 2 = 0 := congrFun (index_3 m hm t) 2
  refine funext fun (j : S1x32x128.Idx) => ?_
  refine Eq.trans ?_ (View.read_apply _ _).symm
  show rowOut m hm c (Fin.ofNat 32 (t.val / 2)) j = rowOut m hm c _ _
  have hj : (j 0).val < 1 := (j 0).isLt
  congr 1
  · apply Fin.ext
    show t.val / 2 % 32 = index3 m hm t 0 * 1 + 1 * (j 0).val
    omega
  · funext a
    apply Fin.ext
    match a with
    | ⟨0, _⟩ => show (j 0).val = 0; omega
    | ⟨1, _⟩ => show (j 1).val = index3 m hm t 1 * 32 + 1 * (j 1).val; omega
    | ⟨2, _⟩ => show (j 2).val = index3 m hm t 2 * 128 + 1 * (j 2).val; omega

/-- Every element of the result's array lies in the block its row's second point writes back. -/
theorem cover (x : S32x32x128.Idx) : ∃ t : Fin (cfgM m hm).N, ((cfgM m hm).win 3).flush t = true ∧ x ∈ (((cfgM m hm).win 3).blk t).view.set := by
  obtain ⟨r, hr⟩ : ∃ r : Fin 32, r.val = (x 0).val := ⟨x 0, rfl⟩
  refine ⟨pt r 1, flush_second m hm r, ?_⟩
  have hi := index_3 m hm (pt r 1)
  have h1 : (x 1 : Nat) < 32 := (x 1).isLt
  have h2 : (x 2 : Nat) < 128 := (x 2).isLt
  have hv : (pt r 1).val = 2 * r.val + 1 := rfl
  have hd : (pt r 1).val / 2 = (x 0).val := by omega
  show x ∈ ((View.whole main_v3).slice (((cfgM m hm).win 3).rect (pt r 1))).set
  erw [View.set_slice_whole]
  refine (Pipeline.Window.mem_rect_iff ((cfgM m hm).win 3) (pt r 1) x (by rfl)).mpr fun a => ?_
  show index3 m hm (pt r 1) a * _ ≤ _ ∧ _ < index3 m hm (pt r 1) a * _ + _
  rw [hi]
  match a with
  | ⟨0, _⟩ => show (pt r 1).val / 2 * 1 ≤ (x 0 : ℕ) ∧ (x 0 : ℕ) < (pt r 1).val / 2 * 1 + 1; omega
  | ⟨1, _⟩ => show 0 * 32 ≤ (x 1 : ℕ) ∧ (x 1 : ℕ) < 0 * 32 + 32; omega
  | ⟨2, _⟩ => show 0 * 128 ≤ (x 2 : ℕ) ∧ (x 2 : ℕ) < 0 * 128 + 128; omega

theorem final : (dats m hm 0 c).arrAt 3 (cfgM m hm).N = result m hm c :=
  (dats m hm 0 c).arrAt_eq_of_cover 3 (result m hm c) (flushed_eq m hm c) (cover m hm)

/-- Every run ends with the result's array holding `result`, the arguments as launched and the counters at zero. -/
theorem ends :
    θ_run defs (onTc (τ := τ) (main (F := F))) ⟨m, fun _ => 0, ρ⟩ (fun r =>
      (∀ c : Dev nD, r.2.mem ((c : Thread nD τ).loc main_v3) = result m hm c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  (θ_run defs _ _).mono (fun _ h => ⟨fun c =>
    ⟨((h.1 c).1 3).trans (final m hm c),
     ((h.1 c).1 0).trans (((dats m hm 0 c).arrAt_in 0 rfl _).trans ((A_eq m hm c 0).trans (V_main_arg0 m c))),
     ((h.1 c).1 1).trans (((dats m hm 0 c).arrAt_in 1 rfl _).trans ((A_eq m hm c 1).trans (V_main_arg1 m c))),
     ((h.1 c).1 2).trans (((dats m hm 0 c).arrAt_in 2 rfl _).trans ((A_eq m hm c 2).trans (V_main_arg2 m c))),
     ((h.1 c).2 main_arg3 (by decide : main_arg3 ∈ Pipeline.restRefs sig spec0)).trans (V_main_arg3 m c),
     ((h.1 c).2 main_arg4 (by decide : main_arg4 ∈ Pipeline.restRefs sig spec0)).trans (V_main_arg4 m c)⟩, h.2⟩)
    (run_main m ρ hm)

end Cert.KernelIdeal.Hand

end

end
-- ==== Proof.Ref.lean ====
/-
  The reference's run: its host operations in order, and what the result's array and the arguments hold when they have run.
-/
module

public import proofs.«01_k».proof.Proof.Gen.ReferenceIdeal
public import Idealize.ShloMosaic.Lib.StableHlo.Run
public import Idealize.ShloMosaic.Lib.Quiescent

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F]

/-- The host operations, in order. -/
abbrev ops : List (HloOp τ sig (Elt F)) :=
  [ binary main_arg0 main_arg1 main_v0 ((fun l r => Host.dotGeneral dot_S32x32x128_S32x8192x128_S32x32x8192_2_2_1_1_0_0 none l r) : (⟨S32x32x128, .f32⟩ : BufTy).Contents (Elt F) → (⟨S32x8192x128, .f32⟩ : BufTy).Contents (Elt F) → (⟨S32x32x8192, .f32⟩ : BufTy).Contents (Elt F)),
    nullary main_cst (constant S_ .f32 0x43000000#32),
    unary main_cst main_v1 (Host.sqrt : (⟨S_, .f32⟩ : BufTy).Contents (Elt F) → (⟨S_, .f32⟩ : BufTy).Contents (Elt F)),
    unary main_v1 main_v2 (broadcastInDim S32x32x8192 ![] bcast_S_S32x32x8192 : (⟨S_, .f32⟩ : BufTy).Contents (Elt F) → (⟨S32x32x8192, .f32⟩ : BufTy).Contents (Elt F)),
    binary main_v0 main_v2 main_v3 (Host.divf : (⟨S32x32x8192, .f32⟩ : BufTy).Contents (Elt F) → (⟨S32x32x8192, .f32⟩ : BufTy).Contents (Elt F) → (⟨S32x32x8192, .f32⟩ : BufTy).Contents (Elt F)),
    nullary main_v4 (iotaInDim S8192 32 0),
    unary main_v4 main_v5 (broadcastInDim S1x8192 ![1] bcast_S8192_S1x8192_1 : (⟨S8192, .i32⟩ : BufTy).Contents (Elt F) → (⟨S1x8192, .i32⟩ : BufTy).Contents (Elt F)),
    unary main_arg3 main_v6 (broadcastInDim S32x1 ![0] bcast_S32_S32x1_0 : (⟨S32, .i32⟩ : BufTy).Contents (Elt F) → (⟨S32x1, .i32⟩ : BufTy).Contents (Elt F)),
    unary main_arg4 main_v7 (broadcastInDim S32x1 ![0] bcast_S32_S32x1_0 : (⟨S32, .i32⟩ : BufTy).Contents (Elt F) → (⟨S32x1, .i32⟩ : BufTy).Contents (Elt F)),
    unary main_v5 main_v8 (broadcastInDim S32x8192 ![0, 1] bcast_S1x8192_S32x8192_0_1 : (⟨S1x8192, .i32⟩ : BufTy).Contents (Elt F) → (⟨S32x8192, .i32⟩ : BufTy).Contents (Elt F)),
    unary main_v6 main_v9 (broadcastInDim S32x8192 ![0, 1] bcast_S32x1_S32x8192_0_1 : (⟨S32x1, .i32⟩ : BufTy).Contents (Elt F) → (⟨S32x8192, .i32⟩ : BufTy).Contents (Elt F)),
    binary main_v8 main_v9 main_v10 (cmpi .sge : (⟨S32x8192, .i32⟩ : BufTy).Contents (Elt F) → (⟨S32x8192, .i32⟩ : BufTy).Contents (Elt F) → (⟨S32x8192, .i1⟩ : BufTy).Contents (Elt F)),
    unary main_v5 main_v11 (broadcastInDim S32x8192 ![0, 1] bcast_S1x8192_S32x8192_0_1 : (⟨S1x8192, .i32⟩ : BufTy).Contents (Elt F) → (⟨S32x8192, .i32⟩ : BufTy).Contents (Elt F)),
    unary main_v7 main_v12 (broadcastInDim S32x8192 ![0, 1] bcast_S32x1_S32x8192_0_1 : (⟨S32x1, .i32⟩ : BufTy).Contents (Elt F) → (⟨S32x8192, .i32⟩ : BufTy).Contents (Elt F)),
    binary main_v11 main_v12 main_v13 (cmpi .slt : (⟨S32x8192, .i32⟩ : BufTy).Contents (Elt F) → (⟨S32x8192, .i32⟩ : BufTy).Contents (Elt F) → (⟨S32x8192, .i1⟩ : BufTy).Contents (Elt F)),
    binary main_v10 main_v13 main_v14 (andi : (⟨S32x8192, .i1⟩ : BufTy).Contents (Elt F) → (⟨S32x8192, .i1⟩ : BufTy).Contents (Elt F) → (⟨S32x8192, .i1⟩ : BufTy).Contents (Elt F)),
    unary main_v5 main_v15 (broadcastInDim S32x8192 ![0, 1] bcast_S1x8192_S32x8192_0_1 : (⟨S1x8192, .i32⟩ : BufTy).Contents (Elt F) → (⟨S32x8192, .i32⟩ : BufTy).Contents (Elt F)),
    unary main_v6 main_v16 (broadcastInDim S32x8192 ![0, 1] bcast_S32x1_S32x8192_0_1 : (⟨S32x1, .i32⟩ : BufTy).Contents (Elt F) → (⟨S32x8192, .i32⟩ : BufTy).Contents (Elt F)),
    binary main_v15 main_v16 main_v17 (cmpi .sge : (⟨S32x8192, .i32⟩ : BufTy).Contents (Elt F) → (⟨S32x8192, .i32⟩ : BufTy).Contents (Elt F) → (⟨S32x8192, .i1⟩ : BufTy).Contents (Elt F)),
    unary main_v5 main_v18 (broadcastInDim S32x8192 ![0, 1] bcast_S1x8192_S32x8192_0_1 : (⟨S1x8192, .i32⟩ : BufTy).Contents (Elt F) → (⟨S32x8192, .i32⟩ : BufTy).Contents (Elt F)),
    unary main_v7 main_v19 (broadcastInDim S32x8192 ![0, 1] bcast_S32x1_S32x8192_0_1 : (⟨S32x1, .i32⟩ : BufTy).Contents (Elt F) → (⟨S32x8192, .i32⟩ : BufTy).Contents (Elt F)),
    binary main_v18 main_v19 main_v20 (cmpi .slt : (⟨S32x8192, .i32⟩ : BufTy).Contents (Elt F) → (⟨S32x8192, .i32⟩ : BufTy).Contents (Elt F) → (⟨S32x8192, .i1⟩ : BufTy).Contents (Elt F)),
    binary main_v17 main_v20 main_v21 (ori : (⟨S32x8192, .i1⟩ : BufTy).Contents (Elt F) → (⟨S32x8192, .i1⟩ : BufTy).Contents (Elt F) → (⟨S32x8192, .i1⟩ : BufTy).Contents (Elt F)),
    binary main_v6 main_v7 main_v22 (cmpi .sle : (⟨S32x1, .i32⟩ : BufTy).Contents (Elt F) → (⟨S32x1, .i32⟩ : BufTy).Contents (Elt F) → (⟨S32x1, .i1⟩ : BufTy).Contents (Elt F)),
    TRef.unary (.of main_v22 : TRef sig ⟨S32x1, .i1⟩) (.of main_call0_v0 : TRef sig ⟨S32x8192, .i1⟩) (broadcastInDim S32x8192 ![0, 1] bcast_S32x1_S32x8192_0_1),
    TRef.ternary (.of main_call0_v0 : TRef sig ⟨S32x8192, .i1⟩) (.of main_v14 : TRef sig ⟨S32x8192, .i1⟩) (.of main_v21 : TRef sig ⟨S32x8192, .i1⟩) (.of main_v23 : TRef sig ⟨S32x8192, .i1⟩) select,
    unary main_v23 main_v24 (broadcastInDim S32x1x8192 ![0, 2] bcast_S32x8192_S32x1x8192_0_2 : (⟨S32x8192, .i1⟩ : BufTy).Contents (Elt F) → (⟨S32x1x8192, .i1⟩ : BufTy).Contents (Elt F)),
    nullary main_cst_0 (constant S_ .f32 0x00000000#32),
    nullary main_cst_1 (constant S_ .f32 0xFF800000#32),
    TRef.unary (.of main_cst_0 : TRef sig ⟨S_, .f32⟩) (.of main_call1_v0 : TRef sig ⟨S32x1x8192, .f32⟩) (broadcastInDim S32x1x8192 ![] bcast_S_S32x1x8192),
    TRef.unary (.of main_cst_1 : TRef sig ⟨S_, .f32⟩) (.of main_call1_v1 : TRef sig ⟨S32x1x8192, .f32⟩) (broadcastInDim S32x1x8192 ![] bcast_S_S32x1x8192),
    TRef.ternary (.of main_v24 : TRef sig ⟨S32x1x8192, .i1⟩) (.of main_call1_v0 : TRef sig ⟨S32x1x8192, .f32⟩) (.of main_call1_v1 : TRef sig ⟨S32x1x8192, .f32⟩) (.of main_v25 : TRef sig ⟨S32x1x8192, .f32⟩) select,
    unary main_v25 main_v26 (id : (⟨S32x1x8192, .f32⟩ : BufTy).Contents (Elt F) → (⟨S32x1x8192, .f32⟩ : BufTy).Contents (Elt F)),
    unary main_v26 main_v27 (broadcastInDim S32x32x8192 ![0, 1, 2] bcast_S32x1x8192_S32x32x8192_0_1_2 : (⟨S32x1x8192, .f32⟩ : BufTy).Contents (Elt F) → (⟨S32x32x8192, .f32⟩ : BufTy).Contents (Elt F)),
    binary main_v3 main_v27 main_v28 (addf : (⟨S32x32x8192, .f32⟩ : BufTy).Contents (Elt F) → (⟨S32x32x8192, .f32⟩ : BufTy).Contents (Elt F) → (⟨S32x32x8192, .f32⟩ : BufTy).Contents (Elt F)),
    nullary main_cst_2 (constant S_ .f32 0xFF800000#32),
    binary main_v28 main_cst_2 main_v29 ((fun x v => Host.reduce FloatOps.maximumf x v reducesTo_S32x32x8192_S32x32_d2 h_S_) : (⟨S32x32x8192, .f32⟩ : BufTy).Contents (Elt F) → (⟨S_, .f32⟩ : BufTy).Contents (Elt F) → (⟨S32x32, .f32⟩ : BufTy).Contents (Elt F)),
    unary main_v29 main_v30 (broadcastInDim S32x32x1 ![0, 1] bcast_S32x32_S32x32x1_0_1 : (⟨S32x32, .f32⟩ : BufTy).Contents (Elt F) → (⟨S32x32x1, .f32⟩ : BufTy).Contents (Elt F)),
    unary main_v30 main_v31 (broadcastInDim S32x32x8192 ![0, 1, 2] bcast_S32x32x1_S32x32x8192_0_1_2 : (⟨S32x32x1, .f32⟩ : BufTy).Contents (Elt F) → (⟨S32x32x8192, .f32⟩ : BufTy).Contents (Elt F)),
    binary main_v28 main_v31 main_v32 (subf : (⟨S32x32x8192, .f32⟩ : BufTy).Contents (Elt F) → (⟨S32x32x8192, .f32⟩ : BufTy).Contents (Elt F) → (⟨S32x32x8192, .f32⟩ : BufTy).Contents (Elt F)),
    unary main_v32 main_v33 (Host.exp : (⟨S32x32x8192, .f32⟩ : BufTy).Contents (Elt F) → (⟨S32x32x8192, .f32⟩ : BufTy).Contents (Elt F)),
    nullary main_cst_3 (constant S_ .f32 0x00000000#32),
    binary main_v33 main_cst_3 main_v34 ((fun x v => Host.reduceAdd x v reducesTo_S32x32x8192_S32x32_d2 h_S_) : (⟨S32x32x8192, .f32⟩ : BufTy).Contents (Elt F) → (⟨S_, .f32⟩ : BufTy).Contents (Elt F) → (⟨S32x32, .f32⟩ : BufTy).Contents (Elt F)),
    unary main_v34 main_v35 (broadcastInDim S32x32x1 ![0, 1] bcast_S32x32_S32x32x1_0_1 : (⟨S32x32, .f32⟩ : BufTy).Contents (Elt F) → (⟨S32x32x1, .f32⟩ : BufTy).Contents (Elt F)),
    nullary main_cst_4 (constant S_ .f32 0x00000000#32),
    unary main_cst_4 main_v36 (broadcastInDim S32x32x1 ![] bcast_S_S32x32x1 : (⟨S_, .f32⟩ : BufTy).Contents (Elt F) → (⟨S32x32x1, .f32⟩ : BufTy).Contents (Elt F)),
    binary main_v35 main_v36 main_v37 (cmpf .oeq : (⟨S32x32x1, .f32⟩ : BufTy).Contents (Elt F) → (⟨S32x32x1, .f32⟩ : BufTy).Contents (Elt F) → (⟨S32x32x1, .i1⟩ : BufTy).Contents (Elt F)),
    nullary main_cst_5 (constant S_ .f32 0x3F800000#32),
    TRef.unary (.of main_cst_5 : TRef sig ⟨S_, .f32⟩) (.of main_call2_v0 : TRef sig ⟨S_, .f32⟩) id,
    TRef.unary (.of main_call2_v0 : TRef sig ⟨S_, .f32⟩) (.of main_call2_v1 : TRef sig ⟨S32x32x1, .f32⟩) (broadcastInDim S32x32x1 ![] bcast_S_S32x32x1),
    TRef.ternary (.of main_v37 : TRef sig ⟨S32x32x1, .i1⟩) (.of main_call2_v1 : TRef sig ⟨S32x32x1, .f32⟩) (.of main_v35 : TRef sig ⟨S32x32x1, .f32⟩) (.of main_v38 : TRef sig ⟨S32x32x1, .f32⟩) select,
    unary main_v38 main_v39 (broadcastInDim S32x32x8192 ![0, 1, 2] bcast_S32x32x1_S32x32x8192_0_1_2 : (⟨S32x32x1, .f32⟩ : BufTy).Contents (Elt F) → (⟨S32x32x8192, .f32⟩ : BufTy).Contents (Elt F)),
    binary main_v33 main_v39 main_v40 (Host.divf : (⟨S32x32x8192, .f32⟩ : BufTy).Contents (Elt F) → (⟨S32x32x8192, .f32⟩ : BufTy).Contents (Elt F) → (⟨S32x32x8192, .f32⟩ : BufTy).Contents (Elt F)),
    binary main_v40 main_arg2 main_v41 ((fun l r => Host.dotGeneral dot_S32x32x8192_S32x8192x128_S32x32x128_2_1_1_2_0_0 none l r) : (⟨S32x32x8192, .f32⟩ : BufTy).Contents (Elt F) → (⟨S32x8192x128, .f32⟩ : BufTy).Contents (Elt F) → (⟨S32x32x128, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub ..,
    nullary_bufs_sub ..,
    unary_bufs_sub ..,
    unary_bufs_sub ..,
    binary_bufs_sub ..,
    nullary_bufs_sub ..,
    unary_bufs_sub ..,
    unary_bufs_sub ..,
    unary_bufs_sub ..,
    unary_bufs_sub ..,
    unary_bufs_sub ..,
    binary_bufs_sub ..,
    unary_bufs_sub ..,
    unary_bufs_sub ..,
    binary_bufs_sub ..,
    binary_bufs_sub ..,
    unary_bufs_sub ..,
    unary_bufs_sub ..,
    binary_bufs_sub ..,
    unary_bufs_sub ..,
    unary_bufs_sub ..,
    binary_bufs_sub ..,
    binary_bufs_sub ..,
    binary_bufs_sub ..,
    unary_bufs_sub ..,
    ternary_bufs_sub ..,
    unary_bufs_sub ..,
    nullary_bufs_sub ..,
    nullary_bufs_sub ..,
    unary_bufs_sub ..,
    unary_bufs_sub ..,
    ternary_bufs_sub ..,
    unary_bufs_sub ..,
    unary_bufs_sub ..,
    binary_bufs_sub ..,
    nullary_bufs_sub ..,
    binary_bufs_sub ..,
    unary_bufs_sub ..,
    unary_bufs_sub ..,
    binary_bufs_sub ..,
    unary_bufs_sub ..,
    nullary_bufs_sub ..,
    binary_bufs_sub ..,
    unary_bufs_sub ..,
    nullary_bufs_sub ..,
    unary_bufs_sub ..,
    binary_bufs_sub ..,
    nullary_bufs_sub ..,
    unary_bufs_sub ..,
    unary_bufs_sub ..,
    ternary_bufs_sub ..,
    unary_bufs_sub ..,
    binary_bufs_sub ..,
    binary_bufs_sub ..⟩

/-- The scores: the products of queries and keys over the square root of 128. -/
abbrev refScores (q : FVec F S32x32x128 .f32) (k : FVec F S32x8192x128 .f32) : FVec F S32x32x8192 .f32 :=
  Host.divf (Host.dotGeneral dot_S32x32x128_S32x8192x128_S32x32x8192_2_2_1_1_0_0 none q k)
    (broadcastInDim S32x32x8192 ![] bcast_S_S32x32x8192 (Host.sqrt (constant S_ .f32 0x43000000#32)))

/-- The positions `0 .. 8191` in every row. -/
abbrev positions : IVec S32x8192 32 :=
  broadcastInDim S32x8192 ![0, 1] bcast_S1x8192_S32x8192_0_1 (broadcastInDim S1x8192 ![1] bcast_S8192_S1x8192_1 (iotaInDim S8192 32 0))

/-- A row's bound, as a column and at every position. -/
abbrev column (x : IVec S32 32) : IVec S32x1 32 := broadcastInDim S32x1 ![0] bcast_S32_S32x1_0 x
abbrev across (x : IVec S32 32) : IVec S32x8192 32 := broadcastInDim S32x8192 ![0, 1] bcast_S32x1_S32x8192_0_1 (column x)

/-- Which positions are valid: those in the range from `s` to `e`, wrapping around when `s` exceeds `e`. -/
abbrev validMask (s e : IVec S32 32) : IVec S32x8192 1 :=
  select (broadcastInDim S32x8192 ![0, 1] bcast_S32x1_S32x8192_0_1 (cmpi .sle (column s) (column e)))
    (andi (cmpi .sge positions (across s)) (cmpi .slt positions (across e)))
    (ori (cmpi .sge positions (across s)) (cmpi .slt positions (across e)))

/-- What is added to the scores: zero where a position is valid, negative infinity elsewhere. -/
abbrev addend (s e : IVec S32 32) : FVec F S32x32x8192 .f32 :=
  broadcastInDim S32x32x8192 ![0, 1, 2] bcast_S32x1x8192_S32x32x8192_0_1_2
    (select (broadcastInDim S32x1x8192 ![0, 2] bcast_S32x8192_S32x1x8192_0_2 (validMask s e))
      (broadcastInDim S32x1x8192 ![] bcast_S_S32x1x8192 (constant S_ .f32 0x00000000#32))
      (broadcastInDim S32x1x8192 ![] bcast_S_S32x1x8192 (constant S_ .f32 0xFF800000#32)))

/-- One value per row and query, at every position. -/
abbrev perKey (x : FVec F S32x32x1 .f32) : FVec F S32x32x8192 .f32 :=
  broadcastInDim S32x32x8192 ![0, 1, 2] bcast_S32x32x1_S32x32x8192_0_1_2 x
abbrev keepdims (x : FVec F S32x32 .f32) : FVec F S32x32x1 .f32 := broadcastInDim S32x32x1 ![0, 1] bcast_S32x32_S32x32x1_0_1 x

/-- The exponentials of the masked scores `x` less their maximum. -/
abbrev exps (x : FVec F S32x32x8192 .f32) : FVec F S32x32x8192 .f32 :=
  Host.exp (subf x (perKey (keepdims (Host.reduce FloatOps.maximumf x (constant S_ .f32 0xFF800000#32) reducesTo_S32x32x8192_S32x32_d2 h_S_))))

/-- The denominators: the sums of the exponentials `p`, a zero sum counting as one. -/
abbrev denoms (p : FVec F S32x32x8192 .f32) : FVec F S32x32x1 .f32 :=
  select (cmpf .oeq (keepdims (Host.reduceAdd p (constant S_ .f32 0x00000000#32) reducesTo_S32x32x8192_S32x32_d2 h_S_))
      (broadcastInDim S32x32x1 ![] bcast_S_S32x32x1 (constant S_ .f32 0x00000000#32)))
    (broadcastInDim S32x32x1 ![] bcast_S_S32x32x1 (constant S_ .f32 0x3F800000#32))
    (keepdims (Host.reduceAdd p (constant S_ .f32 0x00000000#32) reducesTo_S32x32x8192_S32x32_d2 h_S_))

/-- The weighted values, `p` the exponentials. -/
abbrev weighted (p : FVec F S32x32x8192 .f32) (v : FVec F S32x8192x128 .f32) : FVec F S32x32x128 .f32 :=
  Host.dotGeneral dot_S32x32x8192_S32x8192x128_S32x32x128_2_1_1_2_0_0 none (Host.divf p (perKey (denoms p))) v

/-- The reference's result. -/
def refOut (q : FVec F S32x32x128 .f32) (k v : FVec F S32x8192x128 .f32) (s e : IVec S32 32) : FVec F S32x32x128 .f32 :=
  weighted (exps (addf (refScores q k) (addend s e))) v

variable (m : (ℓ : Loc nD τ sig) → Buf (Elt F) ℓ) (ρ : Dev nD → PrngReg)

set_option maxHeartbeats 4000000 in
/-- The result's array after the operations. -/
theorem after_v41 (c : Dev nD) : after ops (fun b => m (c, b)) (main_v41 : Ref sig .tc)
    = refOut (m ((c : Thread nD τ).loc main_arg0)) (m ((c : Thread nD τ).loc main_arg1)) (m ((c : Thread nD τ).loc main_arg2))
        (m ((c : Thread nD τ).loc main_arg3)) (m ((c : Thread nD τ).loc main_arg4)) := by
  after_results
  rfl

theorem after_arg0 (c : Dev nD) : after ops (fun b => m (c, b)) (main_arg0 : Ref sig .tc) = m ((c : Thread nD τ).loc main_arg0) := by after_results
theorem after_arg1 (c : Dev nD) : after ops (fun b => m (c, b)) (main_arg1 : Ref sig .tc) = m ((c : Thread nD τ).loc main_arg1) := by after_results
theorem after_arg2 (c : Dev nD) : after ops (fun b => m (c, b)) (main_arg2 : Ref sig .tc) = m ((c : Thread nD τ).loc main_arg2) := by after_results
theorem after_arg3 (c : Dev nD) : after ops (fun b => m (c, b)) (main_arg3 : Ref sig .tc) = m ((c : Thread nD τ).loc main_arg3) := by after_results
theorem after_arg4 (c : Dev nD) : after ops (fun b => m (c, b)) (main_arg4 : Ref sig .tc) = m ((c : Thread nD τ).loc main_arg4) := by after_results

/-- Every run ends with the result's array holding `refOut` of the arguments, and the arguments as launched. -/
theorem ends :
    θ_run defs (onTc (τ := τ) (main (F := F))) ⟨m, fun _ => 0, ρ⟩ (fun r => ∀ c : Dev nD,
      r.2.mem ((c : Thread nD τ).loc main_v41)
          = refOut (m ((c : Thread nD τ).loc main_arg0)) (m ((c : Thread nD τ).loc main_arg1)) (m ((c : Thread nD τ).loc main_arg2))
              (m ((c : Thread nD τ).loc main_arg3)) (m ((c : Thread nD τ).loc main_arg4))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) :=
  (θ_run defs _ _).mono (fun _ h c => ⟨(h c main_v41).trans (after_v41 m c), (h c main_arg0).trans (after_arg0 m c),
      (h c main_arg1).trans (after_arg1 m c), (h c main_arg2).trans (after_arg2 m c), (h c main_arg3).trans (after_arg3 m c),
      (h c main_arg4).trans (after_arg4 m c)⟩)
    (run_seq scopedRefs_eq scopedSems_eq defs main (fun _ => ops) main_eq (fun _ => ops_sub) m ρ)

/-- The program has no counter. -/
theorem counters (s : MemSt nD τ sig (Elt F)) : s.sem = fun _ => 0 := sem_eq_zero_of_no_sems (sig := sig) (by decide) s

end Cert.ReferenceIdeal.Hand

end

end
-- ==== Proof.Ranges.lean ====
/-
  What the precondition says of a row: its range of valid keys starts at 0 and ends at most at 8192.
-/
module

public import proofs.«01_k».proof.Proof.Gen.Pre_ranges
public import Idealize.ShloMosaic.Lib.ReduceAll
public import Idealize.ShloMosaic.Lib.WordCmp
public import Idealize.ShloMosaic.Lib.Affine

@[expose] public section

noncomputable section

namespace Cert.Pre_ranges.Hand

open Cert.Pre_ranges Cert.Pre_ranges.Gen Idealize.ShloMosaic

variable {F : FTy → Type} [FloatOps F]

instance : Subsingleton S_.Idx := ⟨fun _ _ => funext fun a => a.elim0⟩

/-- A word of `32` bits that is at least 0 and at most 8192 as a signed integer is at most 8192 as a natural number. -/
theorem toNat_le {w : BitVec 32} (h0 : IntOp.cmpi .sge w 0#32 = 1#1) (h1 : IntOp.cmpi .sle w 8192#32 = 1#1) : w.toNat ≤ 8192 := by
  rw [IntOp.cmpi_sge] at h0
  rw [IntOp.cmpi_sle] at h1
  simp only [BitVec.toInt_eq_toNat_cond] at h0 h1
  have := w.isLt
  simp at h0 h1
  split at h0 <;> omega

/-- Under the precondition every row starts at 0 and ends at most at 8192. -/
theorem rows (q : FVec F S32x32x128 .f32) (k v : FVec F S32x8192x128 .f32) (s e : IVec S32 32)
    (h : fn (F := F) q k v s e = fun _ => 1#1) (x : S32.Idx) : s x = 0#32 ∧ (e x).toNat ≤ 8192 := by
  have h0 : Host.reduce IntOp.andi (andi (cmpi .eq s fun _ => 0#32) (andi (cmpi .sge e fun _ => 0#32) (cmpi .sle e fun _ => 8192#32)))
      (constantI S_ 1 1#1) reducesTo_S32_S_d0 h_S_ (fun a => a.elim0) = 1#1 := congrFun h _
  have hx := Host.reduce_andi_all _ _ _ _ _ h0 x
  obtain ⟨h1, h2⟩ := IntOp.andi_eq_one.mp (show IntOp.andi (IntOp.cmpi .eq (s x) 0#32)
    (IntOp.andi (IntOp.cmpi .sge (e x) 0#32) (IntOp.cmpi .sle (e x) 8192#32)) = 1#1 from hx)
  obtain ⟨h3, h4⟩ := IntOp.andi_eq_one.mp h2
  exact ⟨IntOp.cmpi_eq.mp h1, toNat_le h3 h4⟩

end Cert.Pre_ranges.Hand

end

end
-- ==== Proof.Frames.lean ====
/-
  The programs' frames and the named constants: every run of the kernel, of its idealization and of the reference ends with
  the arguments unchanged and every counter at zero; and the two named constants stand for the literals they replace.
-/
module

public import proofs.«01_k».proof.Defs
public import proofs.«01_k».proof.Proof.Bits.Result
public import proofs.«01_k».proof.Proof.Result
public import proofs.«01_k».proof.Proof.Ref
public import proofs.«01_k».proof.Proof.Ranges

@[expose] public section

noncomputable section

namespace Cert.Hand

open Idealize.ShloMosaic Idealize.SL.Sem

theorem good_kernel (m : (ℓ : Loc Cert.Kernel.nD Cert.Kernel.τ Cert.Kernel.sig) → Buf (Elt Bits) ℓ) (h : Cert.Pre_Kernel m) :
    Cert.Kernel.Hand.Good m :=
  fun x => (Cert.Pre_ranges.Hand.rows _ _ _ _ _ (h 0) x).2

theorem good_ideal (m : (ℓ : Loc Cert.KernelIdeal.nD Cert.KernelIdeal.τ Cert.KernelIdeal.sig) → Buf (Elt Ideal) ℓ)
    (h : Cert.Pre_KernelIdeal m) : Cert.KernelIdeal.Hand.Good m :=
  fun x => (Cert.Pre_ranges.Hand.rows _ _ _ _ _ (h 0) x).2

theorem frame_kernel : Cert.quiescent_Kernel := fun m g h =>
  (θ_run Cert.Kernel.defs _ _).mono (fun _ hr => ⟨fun c => (hr.1 c).2, hr.2⟩) (Cert.Kernel.Hand.ends m g (good_kernel m h))

theorem frame_ideal : Cert.quiescent_KernelIdeal := fun m g h =>
  (θ_run Cert.KernelIdeal.defs _ _).mono (fun _ hr => ⟨fun c => (hr.1 c).2, hr.2⟩) (Cert.KernelIdeal.Hand.ends m g (good_ideal m h))

theorem frame_reference : Cert.quiescent_ReferenceIdeal := fun m g _ =>
  (θ_run Cert.ReferenceIdeal.defs _ _).mono (fun r hr => ⟨fun c => (hr c).2, Cert.ReferenceIdeal.Hand.counters r.2⟩)
    (Cert.ReferenceIdeal.Hand.ends m g)

theorem preserves : Cert.preserves_Kernel_KernelIdeal :=
  ⟨IdealRules.named_const.statement Cert.KernelIdeal.κ "scale" .f32 0x3E0293EE#32 _ rfl,
   IdealRules.named_const.statement Cert.KernelIdeal.κ "mask" .f32 0xFF333332#32 _ rfl⟩

end Cert.Hand

end

end
-- ==== Proof.Softmax.lean ====
module

public import Idealize.ShloMosaic.Lib.Pointwise

/-!
# Softmax over the extended reals

The facts of arithmetic that the equation between the kernel and the reference rests on. None of them speaks of a program.

A score is an extended real, and may be `⊥` (a key that is masked out) or `⊤`. A block of keys has a largest score `M`, a sum
of the weights `exp2 (s j - M)` and a sum of the weights times the values. When the largest score grows from `M` to `M'`, the
two sums are to be multiplied by `exp2 (M - M')`; `rescale_sum` and `rescale_weighted` say that this is right, whatever the
scores.
-/

@[expose] public section

open Idealize.ShloMosaic

namespace Cert.Softmax

/-! ### Sums and a factor -/

/-- A factor that is neither negative nor infinite moves into a sum. -/
theorem mul_sum {ι : Type*} (t : Finset ι) (c : EReal) (h0 : 0 ≤ c) (h1 : c ≠ ⊤) (f : ι → EReal) :
    c * ∑ j ∈ t, f j = ∑ j ∈ t, c * f j := by
  classical
  induction t using Finset.induction_on with
  | empty => simp
  | insert a t ha ih =>
    rw [Finset.sum_insert ha, Finset.sum_insert ha, EReal.left_distrib_of_nonneg_of_ne_top h0 h1, ih]

/-- The same with the factor on the right. -/
theorem sum_mul {ι : Type*} (t : Finset ι) (c : EReal) (h0 : 0 ≤ c) (h1 : c ≠ ⊤) (f : ι → EReal) :
    (∑ j ∈ t, f j) * c = ∑ j ∈ t, f j * c := by
  rw [mul_comm, mul_sum t c h0 h1]; exact Finset.sum_congr rfl fun _ _ => mul_comm _ _

/-! ### The power of two -/

theorem exp2_bot : Ideal.exp2 ⊥ = 0 := rfl

theorem exp2_nonneg (x : EReal) : 0 ≤ Ideal.exp2 x := by
  induction x using EReal.rec with
  | bot => exact le_refl _
  | top => exact le_top
  | coe r => exact EReal.coe_nonneg.2 (Real.rpow_nonneg (by norm_num) r)

theorem exp2_ne_top (x : EReal) (h : x ≠ ⊤) : Ideal.exp2 x ≠ ⊤ := by
  induction x using EReal.rec with
  | bot => exact EReal.zero_ne_top
  | top => exact absurd rfl h
  | coe r => exact EReal.coe_ne_top _

theorem sub_ne_top {a b : EReal} (h : a ≤ b) : a - b ≠ ⊤ := by
  induction b using EReal.rec with
  | bot => rw [le_bot_iff.1 h]; decide
  | top => induction a using EReal.rec <;> simp [sub_eq_add_neg]
  | coe r =>
    induction a using EReal.rec with
    | bot => simp [sub_eq_add_neg]
    | top => exact absurd h (by simp)
    | coe s => exact EReal.coe_ne_top _

/-- A weight is never infinite. -/
theorem weight_ne_top {a b : EReal} (h : a ≤ b) : Ideal.exp2 (a - b) ≠ ⊤ := exp2_ne_top _ (sub_ne_top h)

/-- One weight after the largest score has grown. -/
theorem rescale_one {s m M : EReal} (h : s ≤ m) (h' : m ≤ M) :
    Ideal.exp2 (m - M) * Ideal.exp2 (s - m) = Ideal.exp2 (s - M) := by
  induction M using EReal.rec with
  | bot =>
    obtain rfl := le_bot_iff.1 h'
    obtain rfl := le_bot_iff.1 h
    simp [sub_eq_add_neg, exp2_bot]
  | top => simp [sub_eq_add_neg, exp2_bot]
  | coe R =>
    induction m using EReal.rec with
    | bot => obtain rfl := le_bot_iff.1 h; simp [sub_eq_add_neg, exp2_bot]
    | top => exact absurd h' (by simp)
    | coe r =>
      induction s using EReal.rec with
      | bot => simp [sub_eq_add_neg, exp2_bot]
      | top => exact absurd h (by simp)
      | coe x =>
        show ((Real.rpow 2 (r - R) : ℝ) : EReal) * ((Real.rpow 2 (x - r) : ℝ) : EReal) = ((Real.rpow 2 (x - R) : ℝ) : EReal)
        rw [← EReal.coe_mul]
        refine congrArg _ ?_
        show (2 : ℝ) ^ (r - R) * (2 : ℝ) ^ (x - r) = (2 : ℝ) ^ (x - R)
        rw [← Real.rpow_add (by norm_num)]
        congr 1; ring_nf

/-- The sum of the weights after the largest score has grown. -/
theorem rescale_sum {ι : Type*} [Fintype ι] (s : ι → EReal) {m M : EReal} (h : ∀ j, s j ≤ m) (h' : m ≤ M) :
    Ideal.exp2 (m - M) * ∑ j, Ideal.exp2 (s j - m) = ∑ j, Ideal.exp2 (s j - M) := by
  rw [mul_sum _ _ (exp2_nonneg _) (weight_ne_top h')]
  exact Finset.sum_congr rfl fun j _ => rescale_one (h j) h'

/-- The weighted sum of the values after the largest score has grown. -/
theorem rescale_weighted {ι : Type*} [Fintype ι] (s v : ι → EReal) {m M : EReal} (h : ∀ j, s j ≤ m) (h' : m ≤ M) :
    (∑ j, Ideal.exp2 (s j - m) * v j) * Ideal.exp2 (m - M) = ∑ j, Ideal.exp2 (s j - M) * v j := by
  rw [mul_comm, mul_sum _ _ (exp2_nonneg _) (weight_ne_top h')]
  exact Finset.sum_congr rfl fun j _ => by rw [← mul_assoc, rescale_one (h j) h']

/-! ### The two bases -/

/-- A power of `e` is a power of two once both scores are multiplied by `1 / log 2`. -/
theorem exp_eq_exp2 (a b : EReal) (L : ℝ) (hL : L = (Real.log 2)⁻¹) :
    Ideal.exp (a - b) = Ideal.exp2 (a * (L : EReal) - b * (L : EReal)) := by
  have hlog : 0 < Real.log 2 := Real.log_pos (by norm_num)
  have hpos : 0 < L := hL ▸ inv_pos.2 hlog
  induction a using EReal.rec with
  | bot => rw [EReal.bot_mul_coe_of_pos hpos]; simp [sub_eq_add_neg, exp2_bot]
  | top =>
    rw [EReal.top_mul_coe_of_pos hpos]
    induction b using EReal.rec with
    | bot => rw [EReal.bot_mul_coe_of_pos hpos]; rfl
    | top => rw [EReal.top_mul_coe_of_pos hpos]; rfl
    | coe y => rw [← EReal.coe_mul]; rfl
  | coe x =>
    induction b using EReal.rec with
    | bot => rw [EReal.bot_mul_coe_of_pos hpos, ← EReal.coe_mul]; rfl
    | top => rw [EReal.top_mul_coe_of_pos hpos, ← EReal.coe_mul]; rfl
    | coe y =>
      rw [← EReal.coe_mul, ← EReal.coe_mul]
      show ((Real.exp (x - y) : ℝ) : EReal) = ((Real.rpow 2 (x * L - y * L) : ℝ) : EReal)
      refine congrArg _ ?_
      show Real.exp (x - y) = (2 : ℝ) ^ (x * L - y * L)
      rw [Real.rpow_def_of_pos (by norm_num)]
      refine congrArg _ ?_
      rw [hL]; field_simp

/-- The largest of the scores, all multiplied by a positive number. -/
theorem iSup_mul {ι : Type*} (s : ι → EReal) (L : ℝ) (hL : 0 < L) :
    (⨆ j, s j) * (L : EReal) = ⨆ j, s j * (L : EReal) := by
  have h0 : (0 : EReal) < (L : EReal) := EReal.coe_pos.2 hL
  have hK : (0 : EReal) < ((L⁻¹ : ℝ) : EReal) := EReal.coe_pos.2 (inv_pos.2 hL)
  have hb : ∀ x : EReal, x * (L : EReal) * ((L⁻¹ : ℝ) : EReal) = x := fun x => by
    rw [mul_assoc, ← EReal.coe_mul, mul_inv_cancel₀ hL.ne', EReal.coe_one, mul_one]
  have hb' : ∀ x : EReal, x * ((L⁻¹ : ℝ) : EReal) * (L : EReal) = x := fun x => by
    rw [mul_assoc, ← EReal.coe_mul, inv_mul_cancel₀ hL.ne', EReal.coe_one, mul_one]
  refine le_antisymm ?_ (iSup_le fun j => mul_le_mul_of_nonneg_right (le_iSup s j) h0.le)
  rw [← hb' (⨆ j, s j * (L : EReal))]
  refine mul_le_mul_of_nonneg_right (iSup_le fun j => ?_) h0.le
  rw [← hb (s j)]
  exact mul_le_mul_of_nonneg_right (le_iSup (fun j => s j * (L : EReal)) j) hK.le

/-! ### The division at the end -/

/-- What a sum of weights is divided by: one where the sum is zero. -/
noncomputable def safe (l : EReal) : EReal := if l = 0 then 1 else l

/-- Dividing by a sum of weights is multiplying by a number that is neither negative nor infinite. -/
theorem div_safe (l : EReal) (h0 : 0 ≤ l) (h1 : l ≠ ⊤) :
    ∃ c : EReal, 0 ≤ c ∧ c ≠ ⊤ ∧ ∀ x, Ideal.div x (safe l) = x * c := by
  induction l using EReal.rec with
  | bot => exact absurd h0 (by simp)
  | top => exact absurd rfl h1
  | coe r =>
    by_cases hr : r = 0
    · refine ⟨((1 / 1 : ℝ) : EReal), ?_, EReal.coe_ne_top _, fun x => ?_⟩
      · exact EReal.coe_nonneg.2 (by norm_num)
      · have : safe (r : EReal) = ((1 : ℝ) : EReal) := by rw [safe, if_pos (by rw [hr]; rfl)]; rfl
        rw [this]; exact Ideal.div_coe one_ne_zero _
    · have : safe (r : EReal) = (r : EReal) := by rw [safe, if_neg (fun h => hr (EReal.coe_eq_zero.1 h))]
      refine ⟨((1 / r : ℝ) : EReal), ?_, EReal.coe_ne_top _, fun x => ?_⟩
      · exact EReal.coe_nonneg.2 (div_nonneg zero_le_one (EReal.coe_nonneg.1 h0))
      · rw [this]; exact Ideal.div_coe hr _

/-- A sum of weights is not negative. -/
theorem sum_nonneg {ι : Type*} [Fintype ι] (s : ι → EReal) (M : EReal) : 0 ≤ ∑ j, Ideal.exp2 (s j - M) :=
  Finset.sum_nonneg fun _ _ => exp2_nonneg _

/-- A sum of weights is not infinite. -/
theorem sum_ne_top {ι : Type*} [Fintype ι] (s : ι → EReal) {M : EReal} (h : ∀ j, s j ≤ M) :
    ∑ j, Ideal.exp2 (s j - M) ≠ ⊤ := by
  classical
  have : ∀ t : Finset ι, ∑ j ∈ t, Ideal.exp2 (s j - M) ≠ ⊤ := fun t => by
    induction t using Finset.induction_on with
    | empty => simp
    | insert a t ha ih => rw [Finset.sum_insert ha]; exact EReal.add_ne_top (weight_ne_top (h a)) ih
  exact this _

/-- Dividing the weighted sum of the values is dividing each weight. -/
theorem div_weighted {ι : Type*} [Fintype ι] (s v : ι → EReal) {M : EReal} (h : ∀ j, s j ≤ M) :
    Ideal.div (∑ j, Ideal.exp2 (s j - M) * v j) (safe (∑ j, Ideal.exp2 (s j - M)))
      = ∑ j, Ideal.div (Ideal.exp2 (s j - M)) (safe (∑ j, Ideal.exp2 (s j - M))) * v j := by
  obtain ⟨c, h0, h1, hc⟩ := div_safe _ (sum_nonneg s M) (sum_ne_top s h)
  rw [hc, sum_mul _ c h0 h1]
  exact Finset.sum_congr rfl fun j _ => by rw [hc]; ac_rfl

/-! ### One block and two blocks -/

/-- The softmax-weighted sum of the values, all of the keys at once: `x` are the scores, `v` the values. -/
noncomputable def attend {ι : Type*} [Fintype ι] (x v : ι → EReal) : EReal :=
  ∑ j, Ideal.div (Ideal.exp (x j - ⨆ j, x j)) (safe (∑ j, Ideal.exp (x j - ⨆ j, x j))) * v j

/-- `attend` in base two, with one division at the end. -/
theorem attend_eq {ι : Type*} [Fintype ι] (x v : ι → EReal) (L : ℝ) (hL : L = (Real.log 2)⁻¹) :
    attend x v = Ideal.div (∑ j, Ideal.exp2 (x j * (L : EReal) - ⨆ j, x j * (L : EReal)) * v j)
      (safe (∑ j, Ideal.exp2 (x j * (L : EReal) - ⨆ j, x j * (L : EReal)))) := by
  have hpos : 0 < L := hL ▸ inv_pos.2 (Real.log_pos (by norm_num))
  rw [div_weighted (fun j => x j * (L : EReal)) v (fun j => le_iSup (fun j => x j * (L : EReal)) j)]
  unfold attend
  simp only [fun j => exp_eq_exp2 (x j) (⨆ j, x j) L hL, iSup_mul x L hpos]

variable {ι κ : Type*} [Fintype ι] [Fintype κ]

/-- The keys may be counted in another order. -/
theorem attend_bijective (f : ι → κ) (hf : Function.Bijective f) (x v : κ → EReal) :
    attend (fun j => x (f j)) (fun j => v (f j)) = attend x v := by
  obtain ⟨e, rfl⟩ : ∃ e : ι ≃ κ, f = e := ⟨Equiv.ofBijective f hf, rfl⟩
  have h1 : (⨆ j, x (e j)) = ⨆ j, x j := e.iSup_comp (g := x)
  have h2 : (∑ j, Ideal.exp (x (e j) - ⨆ j, x j)) = ∑ j, Ideal.exp (x j - ⨆ j, x j) :=
    e.sum_comp fun j => Ideal.exp (x j - ⨆ j, x j)
  unfold attend
  rw [h1, h2]
  exact e.sum_comp fun j => Ideal.div (Ideal.exp (x j - ⨆ j, x j)) (safe (∑ j, Ideal.exp (x j - ⨆ j, x j))) * v j

/-- What one block leaves: its largest score. -/
noncomputable def top1 (s : ι → EReal) : EReal := max ⊥ (⨆ j, s j)

theorem top1_eq (s : ι → EReal) : top1 s = ⨆ j, s j := by simp [top1]

/-- What one block leaves: the sum of its weights, added to what was there before, which was nothing. -/
noncomputable def den1 (s : ι → EReal) : EReal := Ideal.exp2 (⊥ - top1 s) * 0 + ∑ j, Ideal.exp2 (s j - top1 s)

theorem den1_eq (s : ι → EReal) : den1 s = ∑ j, Ideal.exp2 (s j - ⨆ j, s j) := by
  simp [den1, top1_eq]

/-- What one block leaves: the weighted sum of its values. -/
noncomputable def num1 (s v : ι → EReal) : EReal := 0 * Ideal.exp2 (⊥ - top1 s) + ∑ j, Ideal.exp2 (s j - top1 s) * v j

theorem num1_eq (s v : ι → EReal) : num1 s v = ∑ j, Ideal.exp2 (s j - ⨆ j, s j) * v j := by
  simp [num1, top1_eq]

/-- What the second block leaves after the first: the largest score, -/
noncomputable def top2 (s : ι → EReal) (t : κ → EReal) : EReal := max (top1 s) (⨆ j, t j)

/-- the sum of the weights, -/
noncomputable def den2 (s : ι → EReal) (t : κ → EReal) : EReal :=
  Ideal.exp2 (top1 s - top2 s t) * den1 s + ∑ j, Ideal.exp2 (t j - top2 s t)

/-- and the weighted sum of the values. -/
noncomputable def num2 (s v : ι → EReal) (t w : κ → EReal) : EReal :=
  num1 s v * Ideal.exp2 (top1 s - top2 s t) + ∑ j, Ideal.exp2 (t j - top2 s t) * w j

theorem iSup_sum_type (x : ι ⊕ κ → EReal) : (⨆ j, x j) = max (⨆ j, x (.inl j)) (⨆ j, x (.inr j)) := iSup_sum

theorem top2_eq (x : ι ⊕ κ → EReal) : top2 (fun j => x (.inl j)) (fun j => x (.inr j)) = ⨆ j, x j := by
  rw [top2, top1_eq, iSup_sum_type]

theorem den2_eq (x : ι ⊕ κ → EReal) :
    den2 (fun j => x (.inl j)) (fun j => x (.inr j)) = ∑ j, Ideal.exp2 (x j - ⨆ j, x j) := by
  rw [den2, top2_eq, den1_eq, top1_eq, rescale_sum _ (fun j => le_iSup (fun j => x (.inl j)) j)
    (iSup_le fun j => le_iSup x (.inl j)), Fintype.sum_sum_type]

theorem num2_eq (x v : ι ⊕ κ → EReal) :
    num2 (fun j => x (.inl j)) (fun j => v (.inl j)) (fun j => x (.inr j)) (fun j => v (.inr j))
      = ∑ j, Ideal.exp2 (x j - ⨆ j, x j) * v j := by
  rw [num2, top2_eq, num1_eq, top1_eq, rescale_weighted _ _ (fun j => le_iSup (fun j => x (.inl j)) j)
    (iSup_le fun j => le_iSup x (.inl j)), Fintype.sum_sum_type]

/-- Two blocks, one after the other, give `attend` of both. -/
theorem two_blocks (x v : ι ⊕ κ → EReal) (L : ℝ) (hL : L = (Real.log 2)⁻¹) :
    Ideal.div (num2 (fun j => x (.inl j) * (L : EReal)) (fun j => v (.inl j)) (fun j => x (.inr j) * (L : EReal)) (fun j => v (.inr j)))
      (safe (den2 (fun j => x (.inl j) * (L : EReal)) (fun j => x (.inr j) * (L : EReal)))) = attend x v := by
  rw [num2_eq (fun j => x j * (L : EReal)) v, den2_eq (fun j => x j * (L : EReal)), attend_eq x v L hL]

/-- One block gives `attend` of both, where every key of the second block is masked out. -/
theorem one_block (x v : ι ⊕ κ → EReal) (hx : ∀ j, x (.inr j) = ⊥) (L : ℝ) (hL : L = (Real.log 2)⁻¹) :
    Ideal.div (num1 (fun j => x (.inl j) * (L : EReal)) (fun j => v (.inl j)))
      (safe (den1 (fun j => x (.inl j) * (L : EReal)))) = attend x v := by
  have hpos : 0 < L := hL ▸ inv_pos.2 (Real.log_pos (by norm_num))
  have hb : ∀ j, x (.inr j) * (L : EReal) = ⊥ := fun j => by rw [hx, EReal.bot_mul_coe_of_pos hpos]
  rw [num1_eq, den1_eq, attend_eq x v L hL, iSup_sum_type, Fintype.sum_sum_type, Fintype.sum_sum_type]
  simp [hb, exp2_bot]

end Cert.Softmax

end
-- ==== Proof.Consts.lean ====
/-
  The bit patterns of the two programs' constants as extended reals.
-/
module

public import Idealize.ShloMosaic.Lib.Pointwise

@[expose] public section

namespace Cert.Consts

open Idealize.ShloMosaic

theorem neg_inf : Ideal.ofBits .f32 0xFF800000#32 = (⊥ : EReal) := by simp [Ideal.ofBits, Ideal.ieee]

theorem hundred_twenty_eight : Ideal.ofBits .f32 0x43000000#32 = ((128 : ℝ) : EReal) := by
  simp [Ideal.ofBits, Ideal.ieee, -EReal.coe_mul]; norm_num

end Cert.Consts

end
-- ==== Proof.Values.lean ====
/-
  The kernel's block computations read at one index, over the extended reals: the running maximum, denominator and
  numerator as a supremum and as sums over the 4096 keys of a block.
-/
module

public import proofs.«01_k».proof.Proof.Steps
public import proofs.«01_k».proof.Proof.Softmax
public import proofs.«01_k».proof.Proof.Consts
public import Idealize.ShloMosaic.Lib.WordCmp
public import Idealize.ShloMosaic.Lib.Pipeline.Value

@[expose] public section

noncomputable section

namespace Cert.KernelIdeal.Hand

open Cert.KernelIdeal Cert.KernelIdeal.Gen
open Idealize.ShloMosaic

/-! ### Trees -/

theorem tree_max_le (d : ℕ) (f : ℕ → EReal) (a : EReal) : tree max d f ≤ a ↔ ∀ n < 2 ^ d, f n ≤ a := by
  induction d generalizing f with
  | zero => exact ⟨fun h n hn => by obtain rfl : n = 0 := by simpa using hn
                                    exact h, fun h => h 0 (by norm_num)⟩
  | succ d ih =>
    show max (tree max d f) (tree max d fun n => f (2 ^ d + n)) ≤ a ↔ _
    rw [max_le_iff, ih, ih]
    constructor
    · rintro ⟨h1, h2⟩ n hn
      by_cases h : n < 2 ^ d
      · exact h1 n h
      · have := h2 (n - 2 ^ d) (by rw [pow_succ] at hn; omega)
        rwa [show 2 ^ d + (n - 2 ^ d) = n by omega] at this
    · exact fun h => ⟨fun n hn => h n (by rw [pow_succ]; omega), fun n hn => h _ (by rw [pow_succ]; omega)⟩

theorem tree_add (d : ℕ) (f : ℕ → EReal) : tree (· + ·) d f = ∑ n ∈ Finset.range (2 ^ d), f n := by
  induction d generalizing f with
  | zero => simp [tree]
  | succ d ih =>
    show tree (· + ·) d f + tree (· + ·) d (fun n => f (2 ^ d + n)) = _
    rw [ih, ih, show 2 ^ (d + 1) = 2 ^ d + 2 ^ d by rw [pow_succ]; omega, Finset.sum_range_add]

/-- A tree of vectors at an index is the tree of the vectors' elements. -/
theorem tree_apply {ι α : Type} (op : (ι → α) → (ι → α) → ι → α) (o : α → α → α) (h : ∀ x y i, op x y i = o (x i) (y i))
    (d : ℕ) (f : ℕ → ι → α) (i : ι) : tree op d f i = tree o d fun n => f n i := by
  induction d generalizing f with
  | zero => rfl
  | succ d ih => show op _ _ i = o _ _; rw [h, ih, ih]

/-! ### Keys by runs of 128 -/

/-- Key `l` of run `n`. -/
def key (n : Fin 32) (l : Fin 128) : Fin 4096 := ⟨128 * n.val + l.val, by omega⟩

theorem key_surj (j : Fin 4096) : ∃ n l, key n l = j :=
  ⟨⟨j.val / 128, by omega⟩, ⟨j.val % 128, Nat.mod_lt _ (by norm_num)⟩, Fin.ext (Nat.div_add_mod _ _)⟩

theorem sum_key (f : Fin 4096 → EReal) : ∑ l : Fin 128, ∑ n : Fin 32, f (key n l) = ∑ j, f j := by
  rw [Finset.sum_comm, ← Fintype.sum_prod_type' (f := fun n l => f (key n l))]
  refine Fintype.sum_bijective (fun p : Fin 32 × Fin 128 => key p.1 p.2) ⟨?_, ?_⟩ _ _ fun _ => rfl
  · rintro ⟨n, l⟩ ⟨n', l'⟩ h
    have h' : 128 * n.val + l.val = 128 * n'.val + l'.val := congrArg Fin.val h
    have := l.isLt; have := l'.isLt
    exact Prod.ext (Fin.ext (by show n.val = n'.val; omega)) (Fin.ext (by show l.val = l'.val; omega))
  · intro j; obtain ⟨n, l, h⟩ := key_surj j; exact ⟨(n, l), h⟩

theorem chunk_apply (sc : Keys Ideal) (n : Fin 32) (h : Fin 32) (l : Fin 128) :
    chunk sc n.val (ix2 h l) = sc (ix2 h (key n l)) := by
  unfold chunk extractStridedSlice
  refine congrArg sc (funext fun a => ?_)
  fin_cases a
  · exact Fin.ext (by show 0 + h.val = h.val; omega)
  · exact Fin.ext (by show 128 * (n.val % 32) + l.val = 128 * n.val + l.val; omega)

theorem spread_apply (x : FVec Ideal S32 .f32) (h : Fin 32) (l : Fin 128) : spread x (ix2 h l) = x (ix1 h) := by
  pointwise [spread]

theorem newMax_apply (m : Lanes Ideal) (sc : Keys Ideal) (h : Fin 32) (l : Fin 128) :
    newMax m sc (ix2 h l) = max (m (ix2 h l)) (⨆ j, sc (ix2 h j)) := by
  show max (m (ix2 h l)) (spread _ (ix2 h l)) = _
  rw [spread_apply]
  refine congrArg (max _) ?_
  pointwise
  rw [show Ideal.ofBits FTy.f32 0xFF800000#32 = (⊥ : EReal) from Consts.neg_inf]
  refine eq_of_forall_ge_iff fun a => ?_
  rw [Finset.fold_max_le, iSup_le_iff]
  simp only [fun x => tree_apply (maximumf (F := Ideal)) max (fun _ _ _ => rfl) 5 (chunk sc) (ix2 h x), tree_max_le]
  constructor
  · intro H j
    obtain ⟨n, x, rfl⟩ := key_surj j
    rw [← chunk_apply sc n h x]; exact H.2 x (Finset.mem_univ _) n.val n.isLt
  · refine fun H => ⟨bot_le, fun x _ n hn => ?_⟩
    rw [chunk_apply sc ⟨n, hn⟩]; exact H _

theorem add_right {a b c : EReal} (h : b = c) : a + b = a + c := by rw [h]

theorem newDen_apply (m l : Lanes Ideal) (sc : Keys Ideal) (μ : Fin 32 → EReal) (hμ : ∀ h x, m (ix2 h x) = μ h)
    (h : Fin 32) (x : Fin 128) :
    newDen m l sc (ix2 h x) = Ideal.exp2 (μ h - max (μ h) (⨆ j, sc (ix2 h j))) * l (ix2 h x)
      + ∑ j, Ideal.exp2 (sc (ix2 h j) - max (μ h) (⨆ j, sc (ix2 h j))) := by
  show Ideal.exp2 (m (ix2 h x) - newMax m sc (ix2 h x)) * l (ix2 h x) + spread (F := Ideal) (multiReduction .add [1] S32
    (tree addf 5 (weight sc (newMax m sc))) 0x00000000#32 reduces_S32x128_S32 (.inl rfl) rfl) (ix2 h x) = _
  rw [spread_apply, newMax_apply, hμ]
  refine add_right ?_
  pointwise
  rw [← sum_key]
  refine Finset.sum_congr rfl fun y _ => ?_
  rw [tree_apply (addf (F := Ideal)) (· + ·) (fun _ _ _ => rfl), tree_add, Finset.sum_range]
  refine Finset.sum_congr rfl fun n _ => ?_
  show Ideal.exp2 (chunk sc n.val (ix2 h y) - newMax m sc (ix2 h y)) = _
  rw [chunk_apply, newMax_apply, hμ]

theorem weights_apply (sc : Keys Ideal) (M : Lanes Ideal) (μ : Fin 32 → EReal) (hμ : ∀ h x, M (ix2 h x) = μ h)
    (h : Fin 32) (j : Fin 4096) : weights sc M (ix2 h j) = Ideal.exp2 (sc (ix2 h j) - μ h) := by
  obtain ⟨n, x, rfl⟩ := key_surj j
  unfold weights
  rw [concatenate_ofFn_apply (t := S32x4096) (s₁ := S32x128) 1 (fun n : Fin 32 => weight sc M n.val) _ rfl 128 rfl (ix2 h (key n x) : S32x4096.Idx) n
    (by show (128 * n.val + x.val) / 128 = n.val; omega) (ix2 h x : S32x128.Idx)
    (by show x.val = (128 * n.val + x.val) % 128; omega)
    (by intro b hb
        fin_cases b
        · rfl
        · exact absurd rfl hb)]
  show Ideal.exp2 (chunk sc n.val (ix2 h x) - M (ix2 h x)) = _
  rw [chunk_apply, hμ]

theorem newNum_apply (m a : Lanes Ideal) (sc : Keys Ideal) (v : Vec Ideal S1x4096x128 .f32) (μ : Fin 32 → EReal)
    (hμ : ∀ h x, m (ix2 h x) = μ h) (h : Fin 32) (x : Fin 128) :
    newNum m a sc v (ix2 h x) = a (ix2 h x) * Ideal.exp2 (μ h - max (μ h) (⨆ j, sc (ix2 h j)))
      + ∑ j, Ideal.exp2 (sc (ix2 h j) - max (μ h) (⨆ j, sc (ix2 h j))) * v (ix3 0 j x) := by
  show a (ix2 h x) * Ideal.exp2 (m (ix2 h x) - newMax m sc (ix2 h x)) + matmul (F := Ideal) dot_S32x4096_S4096x128_S32x128_1_0_0_1_n_n none
    (weights sc (newMax m sc)) (shapeCast S4096x128 v shapeCasts_S1x4096x128_S4096x128) (constant S32x128 .f32 0x00000000#32) (ix2 h x) = _
  rw [newMax_apply, hμ]
  refine add_right ?_
  pointwise
  refine Finset.sum_congr rfl fun j _ => ?_
  rw [weights_apply sc _ (fun h => max (μ h) (⨆ j, sc (ix2 h j))) (fun h x => by rw [newMax_apply, hμ])]

theorem quotient_apply (l a : Lanes Ideal) (h : Fin 32) (x : Fin 128) :
    quotient l a (ix3 0 h x) = Ideal.div (a (ix2 h x)) (Softmax.safe (l (ix2 h x))) := by
  pointwise [quotient, k0_pay8]
  rfl

theorem scale_named :
    Named.named (F := Ideal) κ "scale" (φ := .f32) 0x3E0293EE#32 = (((Real.log 2)⁻¹ * (Real.sqrt 128)⁻¹ : ℝ) : EReal) :=
  IdealRules.named_const.ideal_named_scalar _ _ _ _ rfl

theorem mask_named : Named.named (F := Ideal) κ "mask" (φ := .f32) 0xFF333332#32 = (⊥ : EReal) :=
  IdealRules.named_const.ideal_named_scalar _ _ _ _ rfl

theorem scores_apply (q : Vec Ideal S1x32x128 .f32) (k : Vec Ideal S1x4096x128 .f32) (h : Fin 32) (j : Fin 4096) :
    scores q k (ix2 h j) = ∑ d, q (ix3 0 h d) * (((Real.log 2)⁻¹ * (Real.sqrt 128)⁻¹ : ℝ) : EReal) * k (ix3 0 j d) := by
  pointwise [scores, k0_pay4]
  rw [scale_named]

theorem maskedScores_apply (b n : ℕ) (hb : b < 2) (hn : n ≤ 8192) (q : Vec Ideal S1x32x128 .f32) (k : Vec Ideal S1x4096x128 .f32)
    (h : Fin 32) (j : Fin 4096) :
    maskedScores (BitVec.ofNat 32 b) (BitVec.ofNat 32 n) q k (ix2 h j) = if b * 4096 + j.val < n then scores q k (ix2 h j) else ⊥ := by
  pointwise [maskedScores, k0_pay93]
  rw [mask_named, show IntOp.addi (Scalar.muli (BitVec.ofNat 32 b) 4096#32) (BitVec.ofNat 32 j.val) = BitVec.ofNat 32 (b * 4096 + j.val) from by
    show BitVec.ofNat 32 b * 4096#32 + BitVec.ofNat 32 j.val = _
    rw [BitVec.ofNat_add, BitVec.ofNat_mul]]
  rw [WordCmp.cmpi_slt_ofNat (by omega) (by omega)]
  by_cases hlt : b * 4096 + j.val < n
  · rw [if_pos hlt]; simp [hlt]; rfl
  · rw [if_neg hlt]; simp [hlt]; rfl

theorem pay1_apply (i : S32x128.Idx) : k0_pay1 (F := Ideal) i = (⊥ : EReal) := by
  pointwise [k0_pay1]
  exact Consts.neg_inf

theorem pay2_apply (i : S32x128.Idx) : k0_pay2 (F := Ideal) i = (0 : EReal) := by
  pointwise [k0_pay2]

theorem pay3_apply (i : S32x128.Idx) : k0_pay3 (F := Ideal) i = (0 : EReal) := by
  pointwise [k0_pay3]

end Cert.KernelIdeal.Hand

end

end
-- ==== Proof.RowValue.lean ====
/-
  The kernel's result read at one index, over the extended reals: the softmax-weighted sum of the values, a key at or past
  the row's end having the score `⊥`.
-/
module

public import proofs.«01_k».proof.Proof.Result
public import proofs.«01_k».proof.Proof.Values

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ) (hm : Good m) (c : Dev nD)

/-- The arrays of queries, keys and values. -/
abbrev qArr : Vec Ideal S32x32x128 .f32 := m ((c : Thread nD τ).loc main_arg0)
abbrev kArr : Vec Ideal S32x8192x128 .f32 := m ((c : Thread nD τ).loc main_arg1)
abbrev vArr : Vec Ideal S32x8192x128 .f32 := m ((c : Thread nD τ).loc main_arg2)

/-! ### The input blocks -/

/-- The blocks of the arrays that a point works on. -/
abbrev index0 (t : Fin (cfgM m hm).N) : Fin 3 → ℕ := ((cfgM m hm).win 0).index t
abbrev index1 (t : Fin (cfgM m hm).N) : Fin 3 → ℕ := ((cfgM m hm).win 1).index t
abbrev index2 (t : Fin (cfgM m hm).N) : Fin 3 → ℕ := ((cfgM m hm).win 2).index t

theorem coord0_pt (r : Fin 32) (j : Fin 2) : (grid0.coords (pt r j) 0).val = r.val := by
  rw [coord0]; show (2 * r.val + j.val) / 2 = r.val; omega

theorem index_0 (r : Fin 32) (j : Fin 2) : index0 m hm (pt r j) = ![r.val, 0, 0] := by
  show (![(BitVec.ofNat 32 (grid0.coords (pt r j) 0).val).toNat, 0, 0] : Fin 3 → ℕ) = _
  rw [coord0_pt, BitVec.toNat_ofNat, Nat.mod_eq_of_lt (by omega)]

theorem index_1 (r : Fin 32) (j : Fin 2) : index1 m hm (pt r j) = ![r.val, min j.val (blocks m (rowIx r) - 1), 0] := by
  refine (transform_1_tbl m hm (grid0.coords (pt r j))).trans ?_
  rw [coord0_pt, coord1_pt, row_pt]

theorem index_2 (r : Fin 32) (j : Fin 2) : index2 m hm (pt r j) = ![r.val, min j.val (blocks m (rowIx r) - 1), 0] := by
  refine (transform_2_tbl m hm (grid0.coords (pt r j))).trans ?_
  rw [coord0_pt, coord1_pt, row_pt]

theorem qAt_apply (r : Fin 32) (j : Fin 2) (h : Fin 32) (d : Fin 128) :
    qAt m hm c (pt r j) (ix3 0 h d) = qArr m c (ix3 r h d) := by
  have e0 : index0 m hm (pt r j) 0 = r.val := congrFun (index_0 m hm r j) 0
  have e1 : index0 m hm (pt r j) 1 = 0 := congrFun (index_0 m hm r j) 1
  have e2 : index0 m hm (pt r j) 2 = 0 := congrFun (index_0 m hm r j) 2
  refine (View.read_apply _ _).trans ?_
  refine congrArg (V m c main_arg0) (funext fun a => ?_) |>.trans (congrFun (V_main_arg0 m c) _)
  apply Fin.ext
  match a with
  | ⟨0, _⟩ => show index0 m hm (pt r j) 0 * 1 + 1 * 0 = r.val; omega
  | ⟨1, _⟩ => show index0 m hm (pt r j) 1 * 32 + 1 * h.val = h.val; omega
  | ⟨2, _⟩ => show index0 m hm (pt r j) 2 * 128 + 1 * d.val = d.val; omega

/-- Key `i` of block `j` among all keys. -/
def wide (j : Fin 2) (i : Fin 4096) : Fin 8192 := ⟨j.val * 4096 + i.val, by omega⟩

theorem kAt_apply (r : Fin 32) (j : Fin 2) (hj : j.val ≤ blocks m (rowIx r) - 1) (i : Fin 4096) (d : Fin 128) :
    kAt m hm c (pt r j) (ix3 0 i d) = kArr m c (ix3 r (wide j i) d) := by
  have e0 : index1 m hm (pt r j) 0 = r.val := congrFun (index_1 m hm r j) 0
  have e1 : index1 m hm (pt r j) 1 = j.val := (congrFun (index_1 m hm r j) 1).trans (min_eq_left hj)
  have e2 : index1 m hm (pt r j) 2 = 0 := congrFun (index_1 m hm r j) 2
  refine (View.read_apply _ _).trans ?_
  refine congrArg (V m c main_arg1) (funext fun a => ?_) |>.trans (congrFun (V_main_arg1 m c) _)
  apply Fin.ext
  match a with
  | ⟨0, _⟩ => show index1 m hm (pt r j) 0 * 1 + 1 * 0 = r.val; omega
  | ⟨1, _⟩ => show index1 m hm (pt r j) 1 * 4096 + 1 * i.val = j.val * 4096 + i.val; omega
  | ⟨2, _⟩ => show index1 m hm (pt r j) 2 * 128 + 1 * d.val = d.val; omega

theorem vAt_apply (r : Fin 32) (j : Fin 2) (hj : j.val ≤ blocks m (rowIx r) - 1) (i : Fin 4096) (d : Fin 128) :
    vAt m hm c (pt r j) (ix3 0 i d) = vArr m c (ix3 r (wide j i) d) := by
  have e0 : index2 m hm (pt r j) 0 = r.val := congrFun (index_2 m hm r j) 0
  have e1 : index2 m hm (pt r j) 1 = j.val := (congrFun (index_2 m hm r j) 1).trans (min_eq_left hj)
  have e2 : index2 m hm (pt r j) 2 = 0 := congrFun (index_2 m hm r j) 2
  refine (View.read_apply _ _).trans ?_
  refine congrArg (V m c main_arg2) (funext fun a => ?_) |>.trans (congrFun (V_main_arg2 m c) _)
  apply Fin.ext
  match a with
  | ⟨0, _⟩ => show index2 m hm (pt r j) 0 * 1 + 1 * 0 = r.val; omega
  | ⟨1, _⟩ => show index2 m hm (pt r j) 1 * 4096 + 1 * i.val = j.val * 4096 + i.val; omega
  | ⟨2, _⟩ => show index2 m hm (pt r j) 2 * 128 + 1 * d.val = d.val; omega

/-! ### The scores -/

/-- `1 / log 2`, by which a score to be raised as a power of two differs from one to be raised as a power of `e`. -/
def perLog : ℝ := (Real.log 2)⁻¹

theorem perLog_pos : 0 < perLog := inv_pos.2 (Real.log_pos (by norm_num))

/-- The score of query `h` and key `j` of row `b`, scaled, a key at or past the row's end having the score `⊥`. -/
def masked (n : ℕ) (b h : Fin 32) (j : Fin 8192) : EReal :=
  if j.val < n then
    (∑ d : Fin 128, (qArr m c (ix3 b h d) * kArr m c (ix3 b j d) : EReal)) * ((1 / Real.sqrt 128 : ℝ) : EReal)
  else ⊥

theorem scale_out (f g : Fin 128 → EReal) :
    ∑ d, f d * (((Real.log 2)⁻¹ * (Real.sqrt 128)⁻¹ : ℝ) : EReal) * g d
      = (∑ d, f d * g d) * ((1 / Real.sqrt 128 : ℝ) : EReal) * (perLog : EReal) := by
  have h0 : (0 : ℝ) ≤ (Real.log 2)⁻¹ * (Real.sqrt 128)⁻¹ :=
    mul_nonneg perLog_pos.le (inv_nonneg.2 (Real.sqrt_nonneg _))
  rw [mul_assoc, ← EReal.coe_mul, show 1 / Real.sqrt 128 * perLog = (Real.log 2)⁻¹ * (Real.sqrt 128)⁻¹ by rw [perLog, one_div, mul_comm],
    Softmax.sum_mul _ _ (EReal.coe_nonneg.2 h0) (EReal.coe_ne_top _)]
  exact Finset.sum_congr rfl fun d _ => mul_right_comm _ _ _

theorem scAt_apply (r : Fin 32) (j : Fin 2) (hj : j.val ≤ blocks m (rowIx r) - 1) (h : Fin 32) (i : Fin 4096) :
    scAt m hm c (pt r j) (ix2 h i) = masked m c (count m (rowIx r)) r h (wide j i) * (perLog : EReal) := by
  have hs : scores (qAt m hm c (pt r j)) (kAt m hm c (pt r j)) (ix2 h i)
      = (∑ d : Fin 128, (qArr m c (ix3 r h d) * kArr m c (ix3 r (wide j i) d) : EReal)) * ((1 / Real.sqrt 128 : ℝ) : EReal)
        * (perLog : EReal) := by
    rw [scores_apply, ← scale_out]
    exact Finset.sum_congr rfl fun d _ => by rw [qAt_apply, kAt_apply m hm c r j hj]
  have hw : (wide j i).val = j.val * 4096 + i.val := rfl
  unfold scAt blockScores
  rw [coord1_pt, row_pt]
  by_cases hf : (j.val + 1) * 4096 ≤ count m (rowIx r)
  · rw [if_pos hf, masked, if_pos (by omega), hs]
  · rw [if_neg hf, maskedScores_apply _ _ j.isLt (count_le m hm _), hs, masked, hw]
    split
    · rfl
    · exact (EReal.bot_mul_coe_of_pos perLog_pos).symm

/-! ### A row -/

/-- The keys of a row, block by block. -/
def both : Fin 4096 ⊕ Fin 4096 → Fin 8192
  | .inl i => wide 0 i
  | .inr i => wide 1 i

variable (r : Fin 32)

/-- The scores of the row's first block, and of its second. -/
abbrev low (h : Fin 32) (i : Fin 4096) : EReal := masked m c (count m (rowIx r)) r h (both (.inl i)) * (perLog : EReal)
abbrev high (h : Fin 32) (i : Fin 4096) : EReal := masked m c (count m (rowIx r)) r h (both (.inr i)) * (perLog : EReal)

theorem low_eq (h : Fin 32) : (fun i => scAt m hm c (pt r 0) (ix2 h i)) = low m c r h :=
  funext fun i => scAt_apply m hm c r 0 (Nat.zero_le _) h i

theorem max1_apply (h : Fin 32) (x : Fin 128) : max1 m hm c r (ix2 h x) = Softmax.top1 (low m c r h) := by
  unfold max1
  rw [newMax_apply, pay1_apply, low_eq]; rfl

theorem den1_apply (h : Fin 32) (x : Fin 128) : den1 m hm c r (ix2 h x) = Softmax.den1 (low m c r h) := by
  unfold den1
  rw [newDen_apply _ _ _ (fun _ => ⊥) (fun _ _ => pay1_apply _), pay2_apply]
  simp only [fun i => congrFun (low_eq m hm c r h) i]; rfl

theorem num1_apply (h : Fin 32) (x : Fin 128) : num1 m hm c r (ix2 h x)
    = Softmax.num1 (low m c r h) (fun i => vArr m c (ix3 r (both (.inl i)) x)) := by
  unfold num1
  rw [newNum_apply _ _ _ _ (fun _ => ⊥) (fun _ _ => pay1_apply _), pay3_apply]
  simp only [fun i => congrFun (low_eq m hm c r h) i, fun i => vAt_apply m hm c r 0 (Nat.zero_le _) i x]; rfl

theorem both_bijective : Function.Bijective both := by
  constructor
  · rintro (i | i) (j | j) h
    all_goals
      have h' : (both _).val = (both _).val := congrArg Fin.val h
      simp only [both, wide] at h'
    · exact congrArg Sum.inl (Fin.ext (by omega))
    · exact absurd h' (by show ¬ (0 * 4096 + i.val = 1 * 4096 + j.val); omega)
    · exact absurd h' (by show ¬ (1 * 4096 + i.val = 0 * 4096 + j.val); omega)
    · exact congrArg Sum.inr (Fin.ext (by omega))
  · intro j
    by_cases h : j.val < 4096
    · exact ⟨.inl ⟨j.val, h⟩, Fin.ext (by show 0 * 4096 + j.val = j.val; omega)⟩
    · exact ⟨.inr ⟨j.val - 4096, by omega⟩, Fin.ext (by show 1 * 4096 + (j.val - 4096) = j.val; omega)⟩

theorem attend_both (h : Fin 32) (d : Fin 128) :
    Softmax.attend (fun j => masked m c (count m (rowIx r)) r h (both j)) (fun j => vArr m c (ix3 r (both j) d))
      = Softmax.attend (masked m c (count m (rowIx r)) r h) (fun j => vArr m c (ix3 r j d)) :=
  Softmax.attend_bijective both both_bijective (masked m c (count m (rowIx r)) r h) (fun j => vArr m c (ix3 r j d))

theorem rowOut_apply (h : Fin 32) (d : Fin 128) :
    rowOut m hm c r (ix3 0 h d)
      = Softmax.attend (masked m c (count m (rowIx r)) r h) (fun j => vArr m c (ix3 r j d)) := by
  rw [← attend_both]
  unfold rowOut
  by_cases hb : blocks m (rowIx r) = 1
  · rw [if_pos hb, quotient_apply, den1_apply, num1_apply]
    refine Softmax.one_block (fun j => masked m c (count m (rowIx r)) r h (both j)) (fun j => vArr m c (ix3 r (both j) d))
      (fun i => ?_) perLog rfl
    refine if_neg (fun hlt => ?_)
    have hlt' : 1 * 4096 + i.val < count m (rowIx r) := hlt
    unfold blocks effCount at hb
    split at hb <;> omega
  · have h1 : (1 : Fin 2).val ≤ blocks m (rowIx r) - 1 := by
      have := blocks_pos m (rowIx r); show 1 ≤ _; omega
    have hh : ∀ h i, scAt m hm c (pt r 1) (ix2 h i) = high m c r h i := fun h i => scAt_apply m hm c r 1 h1 h i
    rw [if_neg hb, quotient_apply,
      newDen_apply _ _ _ (fun h => Softmax.top1 (low m c r h)) (fun h x => max1_apply m hm c r h x),
      newNum_apply _ _ _ _ (fun h => Softmax.top1 (low m c r h)) (fun h x => max1_apply m hm c r h x),
      den1_apply, num1_apply]
    simp only [hh, fun i => vAt_apply m hm c r 1 h1 i d]
    exact Softmax.two_blocks (fun j => masked m c (count m (rowIx r)) r h (both j)) (fun j => vArr m c (ix3 r (both j) d)) perLog rfl

end Cert.KernelIdeal.Hand

end

end
-- ==== Proof.RefValue.lean ====
/-
  The reference's result read at one index, over the extended reals: the softmax-weighted sum of the values, a key at or
  past the row's end having the score `⊥`.
-/
module

public import proofs.«01_k».proof.Proof.Ref
public import proofs.«01_k».proof.Proof.Softmax
public import proofs.«01_k».proof.Proof.Consts
public import Idealize.ShloMosaic.Lib.WordCmp

@[expose] public section

noncomputable section

namespace Cert.ReferenceIdeal.Hand

open Cert.ReferenceIdeal Cert.ReferenceIdeal.Gen
open Idealize.ShloMosaic

variable (q : FVec Ideal S32x32x128 .f32) (k v : FVec Ideal S32x8192x128 .f32) (s e : IVec S32 32)

/-- The score of query `h` and key `j` of row `b`, scaled but not masked. -/
def score (b h : Fin 32) (j : Fin 8192) : EReal :=
  (∑ d : Fin 128, (q (ix3 b h d) * k (ix3 b j d) : EReal)) * ((1 / Real.sqrt 128 : ℝ) : EReal)

theorem sqrt_ne_zero : Real.sqrt 128 ≠ 0 := (Real.sqrt_pos.2 (by norm_num)).ne'

theorem sqrt_128 : Ideal.sqrt ((128 : ℝ) : EReal) = ((Real.sqrt 128 : ℝ) : EReal) :=
  (Ideal.sqrt_coe 128).trans (if_neg (by norm_num))

theorem refScores_apply (b h : Fin 32) (j : Fin 8192) : refScores q k (ix3 b h j) = score q k b h j := by
  pointwise
  rw [Consts.hundred_twenty_eight, sqrt_128, Ideal.div_coe sqrt_ne_zero]
  rfl

theorem addend_apply (b h : Fin 32) (j : Fin 8192) (hs : s (ix1 b) = 0#32) (he : (e (ix1 b)).toNat ≤ 8192) :
    addend (F := Ideal) s e (ix3 b h j) = if j.val < (e (ix1 b)).toNat then (0 : EReal) else ⊥ := by
  pointwise
  have hj : (BitVec.ofNat 32 j.val).toNat = j.val := by rw [BitVec.toNat_ofNat]; exact Nat.mod_eq_of_lt (by omega)
  rw [hs, Consts.neg_inf, WordCmp.cmpi_sle_of_lt (by norm_num) (by omega), WordCmp.cmpi_sge_of_lt (by omega) (by norm_num),
    WordCmp.cmpi_slt_of_lt (by omega) (by omega), hj]
  generalize (e (ix1 b)).toNat = n
  by_cases hlt : j.val < n
  · rw [if_pos hlt]; simp [hlt]; rfl
  · rw [if_neg hlt]; simp [hlt]; rfl

theorem exps_apply (x : FVec Ideal S32x32x8192 .f32) (b h : Fin 32) (j : Fin 8192) :
    exps x (ix3 b h j) = Ideal.exp (x (ix3 b h j) - ⨆ j, x (ix3 b h j)) := by
  pointwise
  rw [Consts.neg_inf, ← Finset.sup_univ_eq_iSup]
  rfl

theorem denoms_apply (p : FVec Ideal S32x32x8192 .f32) (b h : Fin 32) :
    denoms p (ix3 b h 0) = Softmax.safe (∑ j : Fin 8192, (p (ix3 b h j) : EReal)) := by
  pointwise
  rfl

theorem weighted_apply (p : FVec Ideal S32x32x8192 .f32) (b h : Fin 32) (d : Fin 128) :
    weighted p v (ix3 b h d) = ∑ j : Fin 8192, (Ideal.div (p (ix3 b h j)) (denoms p (ix3 b h 0)) * v (ix3 b j d) : EReal) := by
  unfold weighted perKey
  generalize denoms p = D
  pointwise

/-- The masked score. -/
def masked (n : ℕ) (b h : Fin 32) (j : Fin 8192) : EReal := if j.val < n then score q k b h j else ⊥

theorem refOut_apply (b h : Fin 32) (d : Fin 128) (hs : s (ix1 b) = 0#32) (he : (e (ix1 b)).toNat ≤ 8192) :
    refOut q k v s e (ix3 b h d)
      = Softmax.attend (masked q k (e (ix1 b)).toNat b h) (fun j => v (ix3 b j d)) := by
  have hx : ∀ j : Fin 8192, addf (refScores q k) (addend (F := Ideal) s e) (ix3 b h j)
      = masked q k (e (ix1 b)).toNat b h j := fun j => by
    show (refScores q k (ix3 b h j) : EReal) + addend (F := Ideal) s e (ix3 b h j) = _
    rw [refScores_apply, addend_apply s e b h j hs he, masked]
    split
    · exact add_zero _
    · exact EReal.add_bot _
  unfold refOut
  rw [weighted_apply, denoms_apply]
  simp only [exps_apply, hx]
  rfl

end Cert.ReferenceIdeal.Hand

end

end
-- ==== Proof.Equation.lean ====
/-
  The equation: over the extended reals the kernel's idealization and the reference leave the same result.
-/
module

public import proofs.«01_k».proof.Proof.Frames
public import proofs.«01_k».proof.Proof.RowValue
public import proofs.«01_k».proof.Proof.RefValue

@[expose] public section

noncomputable section

namespace Cert.Hand

open Idealize.ShloMosaic Idealize.SL.Sem Idealize.ShloMosaic.TcCoe

section
open Cert.KernelIdeal Cert.KernelIdeal.Hand

variable (m : (ℓ : Loc nD τ sig) → Buf (Elt Ideal) ℓ)

theorem rowIx_eq (b : Fin 32) : rowIx b = ix1 b := by
  funext a; fin_cases a; rfl

theorem inRow_eq (h : Fin 32) (d : Fin 128) : inRow h d = ix3 0 h d := by
  funext a; fin_cases a <;> rfl

/-- The starts of the rows. -/
abbrev startWord (x : S32.Idx) : BitVec 32 := m (((0 : Dev nD) : Thread nD τ).loc main_arg3) x

/-- The reference's function of the arguments is the kernel's result. -/
theorem equation (hm : Good m) (hs : ∀ x, startWord m x = 0#32) :
    Cert.ReferenceIdeal.Hand.refOut (F := Ideal) (qArr m 0) (kArr m 0) (vArr m 0) (startWord m) (endWord m) = result m hm 0 := by
  funext x
  obtain ⟨b, h, d, rfl⟩ : ∃ (b : Fin 32) (h : Fin 32) (d : Fin 128), x = ix3 b h d := ⟨x 0, x 1, x 2, eq_ix3 x⟩
  rw [Cert.ReferenceIdeal.Hand.refOut_apply _ _ _ _ _ b h d (hs _) (hm _)]
  show _ = rowOut m hm 0 b (inRow h d)
  rw [inRow_eq, rowOut_apply, rowIx_eq]
  rfl
end

theorem algebraic : Cert.algebraic_KernelIdeal_ReferenceIdeal := by
  intro m g m' g' hpre hargs
  have hm := good_ideal m hpre
  refine ⟨fun c => Cert.KernelIdeal.Hand.result m hm c, ?_, ?_⟩
  · exact (θ_run Cert.KernelIdeal.defs _ _).mono (fun _ hr => hr.1) (Cert.KernelIdeal.Hand.ends m g hm)
  · refine (θ_run Cert.ReferenceIdeal.defs _ _).mono (fun r hr c => ?_) (Cert.ReferenceIdeal.Hand.ends m' g')
    refine ⟨(hr c).1.trans ?_, (hr c).2⟩
    obtain rfl : c = 0 := Subsingleton.elim _ _
    obtain ⟨h0, h1, h2, h3, h4⟩ := hargs 0
    rw [h0, h1, h2, h3, h4]
    exact equation m hm fun x => (Cert.Pre_ranges.Hand.rows _ _ _ _ _ (hpre 0) x).1

end Cert.Hand

end

end
-- ==== Proof.lean ====
/-
  The certificate's claim, assembled: the frames of the kernel, of its idealization and of the reference; that the named
  constants stand for the literals they replace; and that over the extended reals the idealization and the reference leave
  the same result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_ranges
public import proofs.«01_k».proof.Proof.Equation

@[expose] public section

noncomputable section

namespace Cert.Proof

theorem claim : Cert.Claim :=
  ⟨Cert.Kernel.Gen.facts, Cert.KernelIdeal.Gen.facts, Cert.ReferenceIdeal.Gen.facts, Cert.Pre_ranges.Gen.facts,
    Cert.Hand.frame_kernel, Cert.Hand.frame_ideal, Cert.Hand.frame_reference, Cert.Hand.preserves, Cert.Hand.algebraic⟩

end Cert.Proof

end

end
